-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_0)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v61) = v2 c
          ∧ r.2.mem ((c.tc : Thread Cert.ReferenceIdeal.nD Cert.ReferenceIdeal.τ).loc Cert.ReferenceIdeal.main_v21) = v3 c
          ∧ r.2.mem ((c.tc : Thread Cert.ReferenceIdeal.nD Cert.ReferenceIdeal.τ).loc Cert.ReferenceIdeal.main_v22) = v4 c
          ∧ r.2.mem ((c.tc : Thread Cert.ReferenceIdeal.nD Cert.ReferenceIdeal.τ).loc Cert.ReferenceIdeal.main_v23) = v5 c
          ∧ r.2.mem ((c.tc : Thread Cert.ReferenceIdeal.nD Cert.ReferenceIdeal.τ).loc Cert.ReferenceIdeal.main_v24) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1x1024x512 : Shape := ⟨3, ![1, 1024, 512]⟩
abbrev S1x128 : Shape := ⟨2, ![1, 128]⟩
abbrev S2560x1024 : Shape := ⟨2, ![2560, 1024]⟩
abbrev S2560 : Shape := ⟨1, ![2560]⟩
abbrev S2560x512 : Shape := ⟨2, ![2560, 512]⟩
abbrev S100000x128 : Shape := ⟨2, ![100000, 128]⟩
abbrev S100000x512 : Shape := ⟨2, ![100000, 512]⟩
abbrev S1024x1024 : Shape := ⟨2, ![1024, 1024]⟩
abbrev S1024x512 : Shape := ⟨2, ![1024, 512]⟩
abbrev S1x2560 : Shape := ⟨2, ![1, 2560]⟩
abbrev S8x512 : Shape := ⟨2, ![8, 512]⟩
abbrev S4000x128 : Shape := ⟨2, ![4000, 128]⟩
abbrev S4000x512 : Shape := ⟨2, ![4000, 512]⟩
abbrev S8x1 : Shape := ⟨2, ![8, 1]⟩
abbrev S1x1x128 : Shape := ⟨3, ![1, 1, 128]⟩
abbrev S1 : Shape := ⟨1, ![1]⟩
abbrev S1x1x1 : Shape := ⟨3, ![1, 1, 1]⟩
abbrev S8x128 : Shape := ⟨2, ![8, 128]⟩
abbrev S8x4000 : Shape := ⟨2, ![8, 4000]⟩
abbrev S8 : Shape := ⟨1, ![8]⟩
abbrev S256x1024 : Shape := ⟨2, ![256, 1024]⟩
abbrev S256x512 : Shape := ⟨2, ![256, 512]⟩
abbrev S256x2560 : Shape := ⟨2, ![256, 2560]⟩
abbrev S1x512 : Shape := ⟨2, ![1, 512]⟩

abbrev nBuf : Space → Nat
  | .hbm => 24
  | .vmem => 30
  | .smem => 0
  | _ => 0

abbrev bufTy : (tb : Table) → Fin (tcTables nBuf tb) → BufTy
  | .hbm, ⟨0, _⟩ => ⟨S1x1024x1024, .f32⟩
  | .hbm, ⟨1, _⟩ => ⟨S1x1024x512, .f32⟩
  | .hbm, ⟨2, _⟩ => ⟨S1x1024x512, .f32⟩
  | .hbm, ⟨3, _⟩ => ⟨S1x128, .f32⟩
  | .hbm, ⟨4, _⟩ => ⟨S2560x1024, .f32⟩
  | .hbm, ⟨5, _⟩ => ⟨S2560, .f32⟩
  | .hbm, ⟨6, _⟩ => ⟨S2560x512, .f32⟩
  | .hbm, ⟨7, _⟩ => ⟨S2560, .f32⟩
  | .hbm, ⟨8, _⟩ => ⟨S100000x128, .f32⟩
  | .hbm, ⟨9, _⟩ => ⟨S100000x512, .f32⟩
  | .hbm, ⟨10, _⟩ => ⟨S1024x1024, .f32⟩
  | .hbm, ⟨11, _⟩ => ⟨S1024x512, .f32⟩
  | .hbm, ⟨12, _⟩ => ⟨S1024x512, .f32⟩
  | .hbm, ⟨13, _⟩ => ⟨S2560, .f32⟩
  | .hbm, ⟨14, _⟩ => ⟨S1x2560, .f32⟩
  | .hbm, ⟨15, _⟩ => ⟨S8x512, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S1024x512, .f32⟩
  | .hbm, ⟨21, _⟩ => ⟨S1024x512, .f32⟩
  | .hbm, ⟨22, _⟩ => ⟨S1x1024x512, .f32⟩
  | .hbm, ⟨23, _⟩ => ⟨S1x1024x512, .f32⟩
  | .local _ .vmem, ⟨0, _⟩ => ⟨S1x128, .f32⟩
  | .local _ .vmem, ⟨1, _⟩ => ⟨S4000x128, .f32⟩
  | .local _ .vmem, ⟨2, _⟩ => ⟨S4000x128, .f32⟩
  | .local _ .vmem, ⟨3, _⟩ => ⟨S4000x512, .f32⟩
  | .local _ .vmem, ⟨4, _⟩ => ⟨S4000x512, .f32⟩
  | .local _ .vmem, ⟨5, _⟩ => ⟨S8x512, .f32⟩
  | .local _ .vmem, ⟨6, _⟩ => ⟨S8x512, .f32⟩
  | .local _ .vmem, ⟨7, _⟩ => ⟨S8x1, .f32⟩
  | .local _ .vmem, ⟨8, _⟩ => ⟨S256x1024, .f32⟩
  | .local _ .vmem, ⟨9, _⟩ => ⟨S256x1024, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | .local _ .vmem, ⟨14, _⟩ => ⟨S2560x1024, .f32⟩
  | .local _ .vmem, ⟨15, _⟩ => ⟨S2560x512, .f32⟩
  | .local _ .vmem, ⟨16, _⟩ => ⟨S1x2560, .f32⟩
  | .local _ .vmem, ⟨17, _⟩ => ⟨S8x512, .f32⟩
  | .local _ .vmem, ⟨18, _⟩ => ⟨S256x512, .f32⟩
  | .local _ .vmem, ⟨19, _⟩ => ⟨S256x512, .f32⟩
  | .local _ .vmem, ⟨20, _⟩ => ⟨S256x512, .f32⟩
  | .local _ .vmem, ⟨21, _⟩ => ⟨S256x512, .f32⟩
  | .local _ .vmem, ⟨22, _⟩ => ⟨S256x512, .f32⟩
  | .local _ .vmem, ⟨23, _⟩ => ⟨S256x512, .f32⟩
  | .local _ .vmem, ⟨24, _⟩ => ⟨S256x512, .f32⟩
  | .local _ .vmem, ⟨25, _⟩ => ⟨S256x512, .f32⟩
  | .local _ .vmem, ⟨26, _⟩ => ⟨S256x512, .f32⟩
  | .local _ .vmem, ⟨27, _⟩ => ⟨S256x512, .f32⟩
  | .local _ .vmem, ⟨28, _⟩ => ⟨S256x512, .f32⟩
  | .local _ .vmem, ⟨29, _⟩ => ⟨S256x512, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6_0 : Ref sig .tc := ⟨.hbm, 16, rfl⟩
abbrev main_call0_v6_1 : Ref sig .tc := ⟨.hbm, 17, rfl⟩
abbrev main_v0_3 : Ref sig .tc := ⟨.hbm, 18, rfl⟩
abbrev main_v0_4 : Ref sig .tc := ⟨.hbm, 19, rfl⟩
abbrev main_v0_5 : Ref sig .tc := ⟨.hbm, 20, rfl⟩
abbrev main_v0_6 : Ref sig .tc := ⟨.hbm, 21, rfl⟩
abbrev main_v0_0 : Ref sig .tc := ⟨.hbm, 22, rfl⟩
abbrev main_v0_2 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_stg8_0 : Ref sig .tc := ⟨.vmem, 20, rfl⟩
abbrev cc1_stg8_1 : Ref sig .tc := ⟨.vmem, 21, rfl⟩
abbrev cc1_stg9_0 : Ref sig .tc := ⟨.vmem, 22, rfl⟩
abbrev cc1_stg9_1 : Ref sig .tc := ⟨.vmem, 23, rfl⟩
abbrev cc1_stg10_0 : Ref sig .tc := ⟨.vmem, 24, rfl⟩
abbrev cc1_stg10_1 : Ref sig .tc := ⟨.vmem, 25, rfl⟩
abbrev cc1_stg11_0 : Ref sig .tc := ⟨.vmem, 26, rfl⟩
abbrev cc1_stg11_1 : Ref sig .tc := ⟨.vmem, 27, rfl⟩
abbrev cc1_stg12_0 : Ref sig .tc := ⟨.vmem, 28, rfl⟩
abbrev cc1_stg12_1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc1_sem8_0 : DmaSem sig := 18
abbrev cc1_sem8_1 : DmaSem sig := 19
abbrev cc1_sem9_0 : DmaSem sig := 20
abbrev cc1_sem9_1 : DmaSem sig := 21
abbrev cc1_sem10_0 : DmaSem sig := 22
abbrev cc1_sem10_1 : DmaSem sig := 23
abbrev cc1_sem11_0 : DmaSem sig := 24
abbrev cc1_sem11_1 : DmaSem sig := 25
abbrev cc1_sem12_0 : DmaSem sig := 26
abbrev cc1_sem12_1 : DmaSem sig := 27

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v39 : BitVec 1 := Scalar.cmpi .eq arg0 c24_i32
  let v40 : BitVec 32 := Scalar.extui v39
  let c0_i32_21 : BitVec 32 := 0#32
  let v41 : BitVec 1 := Scalar.cmpi .ne v40 c0_i32_21
  v41

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S2560x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2560x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2560 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S256x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S256x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x512 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x512 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S256x512 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]
-- ==== ReferenceIdeal.lean ====
abbrev S1x1024x1024 : Shape := ⟨3, ![1, 1024, 1024]⟩
abbrev S1x1024x512 : Shape := ⟨3, ![1, 1024, 512]⟩
abbrev S1x128 : Shape := ⟨2, ![1, 128]⟩
abbrev S2560x1024 : Shape := ⟨2, ![2560, 1024]⟩
abbrev S2560 : Shape := ⟨1, ![2560]⟩
abbrev S2560x512 : Shape := ⟨2, ![2560, 512]⟩
abbrev S100000x128 : Shape := ⟨2, ![100000, 128]⟩
abbrev S100000x512 : Shape := ⟨2, ![100000, 512]⟩
abbrev S1024x512 : Shape := ⟨2, ![1024, 512]⟩
abbrev S1024x1024 : Shape := ⟨2, ![1024, 1024]⟩
abbrev S1024x2560 : Shape := ⟨2, ![1024, 2560]⟩
abbrev S1x2560 : Shape := ⟨2, ![1, 2560]⟩
abbrev S512x2560 : Shape := ⟨2, ![512, 2560]⟩
abbrev S1024x2048 : Shape := ⟨2, ![1024, 2048]⟩
abbrev S_ : Shape := ⟨0, ![]⟩
abbrev S1 : Shape := ⟨1, ![1]⟩
abbrev S1x1 : Shape := ⟨2, ![1, 1]⟩
abbrev S100000 : Shape := ⟨1, ![100000]⟩
abbrev S100000x1 : Shape := ⟨2, ![100000, 1]⟩
abbrev S128x100000 : Shape := ⟨2, ![128, 100000]⟩
abbrev S1x100000 : Shape := ⟨2, ![1, 100000]⟩
abbrev S1x512 : Shape := ⟨2, ![1, 512]⟩

abbrev nBuf : Space → Nat
  | .hbm => 87
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x512, .f32⟩
  | .hbm, ⟨2, _⟩ => ⟨S1x1024x512, .f32⟩
  | .hbm, ⟨3, _⟩ => ⟨S1x128, .f32⟩
  | .hbm, ⟨4, _⟩ => ⟨S2560x1024, .f32⟩
  | .hbm, ⟨5, _⟩ => ⟨S2560, .f32⟩
  | .hbm, ⟨6, _⟩ => ⟨S2560x512, .f32⟩
  | .hbm, ⟨7, _⟩ => ⟨S2560, .f32⟩
  | .hbm, ⟨8, _⟩ => ⟨S100000x128, .f32⟩
  | .hbm, ⟨9, _⟩ => ⟨S100000x512, .f32⟩
  | .hbm, ⟨10, _⟩ => ⟨S1024x512, .f32⟩
  | .hbm, ⟨11, _⟩ => ⟨S1024x512, .f32⟩
  | .hbm, ⟨12, _⟩ => ⟨S1024x1024, .f32⟩
  | .hbm, ⟨13, _⟩ => ⟨S1024x2560, .f32⟩
  | .hbm, ⟨14, _⟩ => ⟨S1024x2560, .f32⟩
  | .hbm, ⟨15, _⟩ => ⟨S1x2560, .f32⟩
  | .hbm, ⟨16, _⟩ => ⟨S1024x2560, .f32⟩
  | .hbm, ⟨17, _⟩ => ⟨S1024x2560, .f32⟩
  | .hbm, ⟨18, _⟩ => ⟨S512x2560, .f32⟩
  | .hbm, ⟨19, _⟩ => ⟨S1024x2560, .f32⟩
  | .hbm, ⟨20, _⟩ => ⟨S1x2560, .f32⟩
  | .hbm, ⟨21, _⟩ => ⟨S1024x2560, .f32⟩
  | .hbm, ⟨22, _⟩ => ⟨S1024x2560, .f32⟩
  | .hbm, ⟨23, _⟩ => ⟨S1024x2560, .f32⟩
  | .hbm, ⟨24, _⟩ => ⟨S1024x2048, .f32⟩
  | .hbm, ⟨25, _⟩ => ⟨S1024x2048, .f32⟩
  | .hbm, ⟨26, _⟩ => ⟨S1024x2048, .f32⟩
  | .hbm, ⟨27, _⟩ => ⟨S_, .f32⟩
  | .hbm, ⟨28, _⟩ => ⟨S1024x2048, .f32⟩
  | .hbm, ⟨29, _⟩ => ⟨S1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1024x512, .f32⟩
  | .hbm, ⟨34, _⟩ => ⟨S1024x512, .f32⟩
  | .hbm, ⟨35, _⟩ => ⟨S1024x512, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S1024x512, .f32⟩
  | .hbm, ⟨40, _⟩ => ⟨S1024x512, .f32⟩
  | .hbm, ⟨41, _⟩ => ⟨S1024x512, .f32⟩
  | .hbm, ⟨42, _⟩ => ⟨S1x128, .f32⟩
  | .hbm, ⟨43, _⟩ => ⟨S_, .f32⟩
  | .hbm, ⟨44, _⟩ => ⟨S1, .f32⟩
  | .hbm, ⟨45, _⟩ => ⟨S1x1, .f32⟩
  | .hbm, ⟨46, _⟩ => ⟨S1x1, .f32⟩
  | .hbm, ⟨47, _⟩ => ⟨S_, .f32⟩
  | .hbm, ⟨48, _⟩ => ⟨S1x1, .f32⟩
  | .hbm, ⟨49, _⟩ => ⟨S1x1, .f32⟩
  | .hbm, ⟨50, _⟩ => ⟨S1x128, .f32⟩
  | .hbm, ⟨51, _⟩ => ⟨S1x128, .f32⟩
  | .hbm, ⟨52, _⟩ => ⟨S100000x128, .f32⟩
  | .hbm, ⟨53, _⟩ => ⟨S_, .f32⟩
  | .hbm, ⟨54, _⟩ => ⟨S100000, .f32⟩
  | .hbm, ⟨55, _⟩ => ⟨S100000x1, .f32⟩
  | .hbm, ⟨56, _⟩ => ⟨S100000x1, .f32⟩
  | .hbm, ⟨57, _⟩ => ⟨S_, .f32⟩
  | .hbm, ⟨58, _⟩ => ⟨S100000x1, .f32⟩
  | .hbm, ⟨59, _⟩ => ⟨S100000x1, .f32⟩
  | .hbm, ⟨60, _⟩ => ⟨S100000x128, .f32⟩
  | .hbm, ⟨61, _⟩ => ⟨S100000x128, .f32⟩
  | .hbm, ⟨62, _⟩ => ⟨S128x100000, .f32⟩
  | .hbm, ⟨63, _⟩ => ⟨S1x100000, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S1, .f32⟩
  | .hbm, ⟨69, _⟩ => ⟨S1x1, .f32⟩
  | .hbm, ⟨70, _⟩ => ⟨S1x100000, .f32⟩
  | .hbm, ⟨71, _⟩ => ⟨S1x100000, .f32⟩
  | .hbm, ⟨72, _⟩ => ⟨S1x100000, .f32⟩
  | .hbm, ⟨73, _⟩ => ⟨S_, .f32⟩
  | .hbm, ⟨74, _⟩ => ⟨S1, .f32⟩
  | .hbm, ⟨75, _⟩ => ⟨S1x1, .f32⟩
  | .hbm, ⟨76, _⟩ => ⟨S1x100000, .f32⟩
  | .hbm, ⟨77, _⟩ => ⟨S1x100000, .f32⟩
  | .hbm, ⟨78, _⟩ => ⟨S1x512, .f32⟩
  | .hbm, ⟨79, _⟩ => ⟨S1x512, .f32⟩
  | .hbm, ⟨80, _⟩ => ⟨S1024x512, .f32⟩
  | .hbm, ⟨81, _⟩ => ⟨S1024x512, .f32⟩
  | .hbm, ⟨82, _⟩ => ⟨S1024x512, .f32⟩
  | .hbm, ⟨83, _⟩ => ⟨S1024x512, .f32⟩
  | .hbm, ⟨84, _⟩ => ⟨S1024x512, .f32⟩
  | .hbm, ⟨85, _⟩ => ⟨S1x1024x512, .f32⟩
  | .hbm, ⟨86, _⟩ => ⟨S1x1024x512, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_call0_cst : Ref sig .tc := ⟨.hbm, 43, rfl⟩
abbrev main_call0_v1 : Ref sig .tc := ⟨.hbm, 44, rfl⟩
abbrev main_call0_v2 : Ref sig .tc := ⟨.hbm, 45, rfl⟩
abbrev main_v30 : Ref sig .tc := ⟨.hbm, 46, rfl⟩
abbrev main_cst_1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call1_v0 : Ref sig .tc := ⟨.hbm, 52, rfl⟩
abbrev main_call1_cst : Ref sig .tc := ⟨.hbm, 53, rfl⟩
abbrev main_call1_v1 : Ref sig .tc := ⟨.hbm, 54, rfl⟩
abbrev main_call1_v2 : Ref sig .tc := ⟨.hbm, 55, rfl⟩
abbrev main_v35 : Ref sig .tc := ⟨.hbm, 56, rfl⟩
abbrev main_cst_2 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_3 : Ref sig .tc := ⟨.hbm, 64, rfl⟩
abbrev main_v42 : Ref sig .tc := ⟨.hbm, 65, rfl⟩
abbrev main_cst_4 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_5 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Proof.Points0.lean ====
/- The first launch: the blocks each grid point reads, its branch conditions in closed form, and where its output window is idle. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## The body's branch conditions -/

/-- The condition under which the body clears its accumulators. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 25 = 0 :=
  (fun t => by
    have ht : t.val < 25 := Nat.lt_of_lt_of_eq t.isLt N_0
    have e0 : (grid0.coords t 0).val = t.val / 1 % 25 := Pipeline.Grid.coords_val t 0 (by decide) rfl
    simp only [cond0_0, e0]
    word_cmp
   : ∀ t : Fin grid0.N, cond0_0 (grid0.coords t) ↔ t.val % 25 = 0)

/-- The condition under which the body writes the result. -/
abbrev cond0_1 (i : grid0.Coords) : Prop := k0_cond2 i = 1#1
/-- It holds at the last point only. -/
theorem hcond0_1 : ∀ t : Fin cfg0.N, cond0_1 (grid0.coords t) ↔ t.val % 25 = 24 :=
  (fun t => by
    have ht : t.val < 25 := Nat.lt_of_lt_of_eq t.isLt N_0
    have e0 : (grid0.coords t 0).val = t.val / 1 % 25 := Pipeline.Grid.coords_val t 0 (by decide) rfl
    simp only [cond0_1, k0_cond2, e0]
    word_cmp
   : ∀ t : Fin grid0.N, cond0_1 (grid0.coords t) ↔ t.val % 25 = 24)

/-! ## Where the windows are idle. Case A is the first point, case C the last, case B every other. -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- At the first point the output window is idle: the body stores nothing into it. -/
theorem idleAt0_3_A : ∀ t : Fin cfg0.N, cond0_0 (grid0.coords t) → ¬cond0_1 (grid0.coords t) → cfg0.idle 3 (grid0.coords t) = true := by decide +kernel
/-- At the first point the output window is not written back. -/
theorem noFlush0_3_A : ∀ t : Fin cfg0.N, cond0_0 (grid0.coords t) → ¬cond0_1 (grid0.coords t) → (cfg0.win 3).flush t = false := by decide +kernel
/-- At a middle point the output window is idle: the body stores nothing into it. -/
theorem idleAt0_3_B : ∀ t : Fin cfg0.N, ¬cond0_0 (grid0.coords t) → ¬cond0_1 (grid0.coords t) → cfg0.idle 3 (grid0.coords t) = true := by decide +kernel
/-- At a middle point the output window is not written back. -/
theorem noFlush0_3_B : ∀ t : Fin cfg0.N, ¬cond0_0 (grid0.coords t) → ¬cond0_1 (grid0.coords t) → (cfg0.win 3).flush t = false := by decide +kernel
/-- At the last point the output window is live: the body stores into it. -/
theorem liveAt0_3_C : ∀ t : Fin cfg0.N, ¬cond0_0 (grid0.coords t) → cond0_1 (grid0.coords t) → cfg0.idle 3 (grid0.coords t) = false := by decide +kernel

/-! ## The buffers the body works on -/

/-- The output window's buffer, as a view through which its contents are stated. -/
abbrev VO0_3 : View sig .tc .vmem S8x512 .f32 := (Memref.whole cc0_stg3_0 : Memref sig .tc .vmem S8x512 .f32).view
/-- Each window's current buffer at point `t`, and that it is a whole buffer. -/
abbrev ms0_0 (t : Fin cfg0.N) : Memref sig .tc .vmem S1x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4000x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x512 .f32 := win0_3.stage (cfg0.slots t 3)
abbrev hs0_3 (t : Fin cfg0.N) : (ms0_3 t).IsWhole := hstage0_3 ((cfg0.slots t 3).cast nbuf0_3)
/-- The two accumulators: the weighted sum of the values and the sum of the weights. -/
abbrev scM0_0 : Memref sig .tc .vmem S8x512 .f32 := Memref.whole cc0_scratch0
abbrev scM0_1 : Memref sig .tc .vmem S8x1 .f32 := Memref.whole cc0_scratch1
/-- The accumulator of the weighted values, as a view through which its contents are stated. -/
abbrev VS0_0 : View sig .tc .vmem S8x512 .f32 := scM0_0.view
/-- The accumulator of the weights, as a view through which its contents are stated. -/
abbrev VS0_1 : View sig .tc .vmem S8x1 .f32 := scM0_1.view

/-- The other call's buffers, which this call leaves alone. -/
abbrev Others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_stg9_0), ((c : Thread nD τ).loc cc1_stg9_0) ↦{fullShare} f) ∗ (∃ f : Buf (Elt F) ((c : Thread nD τ).loc cc1_stg9_1), ((c : Thread nD τ).loc cc1_stg9_1) ↦{fullShare} f) ∗ (∃ f : Buf (Elt F) ((c : Thread nD τ).loc cc1_stg10_0), ((c : Thread nD τ).loc cc1_stg10_0) ↦{fullShare} f) ∗ (∃ f : Buf (Elt F) ((c : Thread nD τ).loc cc1_stg10_1), ((c : Thread nD τ).loc cc1_stg10_1) ↦{fullShare} f) ∗ (∃ f : Buf (Elt F) ((c : Thread nD τ).loc cc1_stg11_0), ((c : Thread nD τ).loc cc1_stg11_0) ↦{fullShare} f) ∗ (∃ f : Buf (Elt F) ((c : Thread nD τ).loc cc1_stg11_1), ((c : Thread nD τ).loc cc1_stg11_1) ↦{fullShare} f) ∗ (∃ f : Buf (Elt F) ((c : Thread nD τ).loc cc1_stg12_0), ((c : Thread nD τ).loc cc1_stg12_0) ↦{fullShare} f) ∗ (∃ f : Buf (Elt F) ((c : Thread nD τ).loc cc1_stg12_1), ((c : Thread nD τ).loc cc1_stg12_1) ↦{fullShare} f))

/-- What a call starts from, with the two accumulators named: each at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ Others0 c) ∗ (∃ r, prngReg c r)) := by
  unfold Pipeline.ΦA; rw [scopedRest0_eq]; simp only [scM0_0, scM0_1, owns_whole]; try rfl

end Cert.KernelIdeal.Hand

end
-- ==== Proof.Run0A.lean ====
/- The first launch's body at the first grid point. -/
module

public import proofs.«01_k».proof.Proof.Points0

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point, run on whole buffers: the lists of stores it makes into the output and the two accumulators,
    last first, and that it runs to its end with the inputs unchanged and exactly those stores made. The accumulators may hold anything before. -/
noncomputable def kernelRun0_A (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : cond0_0 i) (hc1 : ¬cond0_1 i)
    (x0 : Vec F S1x128 .f32) (x1 : Vec F S4000x128 .f32) (x2 : Vec F S4000x512 .f32) :
    Σ' (L3 : List (View.Piece (Elt F) S8x512 .f32)), Σ' (LS0 : List (View.Piece (Elt F) S8x512 .f32)), { LS1 : List (View.Piece (Elt F) S8x1 .f32) //
      ∀ (xi3 : Vec F S8x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__dnd_kernel i arg1 harg1 arg2 harg2 arg3 harg3 arg4 harg4 arg5 harg5 arg6 harg6) K } := by
  refine ⟨[], ?_, ?_, fun xi3 E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.Run0B.lean ====
/- The first launch's body at a middle grid point. -/
module

public import proofs.«01_k».proof.Proof.Run0A

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point, run on whole buffers: the lists of stores it makes into the output and the two accumulators,
    last first, and that it runs to its end with the inputs unchanged and exactly those stores made. The accumulators hold what the point before left. -/
noncomputable def kernelRun0_B (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : ¬cond0_0 i) (hc1 : ¬cond0_1 i)
    (x0 : Vec F S1x128 .f32) (x1 : Vec F S4000x128 .f32) (x2 : Vec F S4000x512 .f32) (xs0 : Vec F S8x512 .f32) (xs1 : Vec F S8x1 .f32) :
    Σ' (L3 : List (View.Piece (Elt F) S8x512 .f32)), Σ' (LS0 : List (View.Piece (Elt F) S8x512 .f32)), { LS1 : List (View.Piece (Elt F) S8x1 .f32) //
      ∀ (xi3 : Vec F S8x512 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__dnd_kernel i arg1 harg1 arg2 harg2 arg3 harg3 arg4 harg4 arg5 harg5 arg6 harg6) K } := by
  refine ⟨[], ?_, ?_, fun xi3 E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Hand

end
-- ==== Proof.Run0C.lean ====
/- The first launch's body at the last grid point. -/
module

public import proofs.«01_k».proof.Proof.Run0B

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point, run on whole buffers: the lists of stores it makes into the output and the two accumulators,
    last first, and that it runs to its end with the inputs unchanged and exactly those stores made. The accumulators hold what the point before left. -/
noncomputable def kernelRun0_C (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : ¬cond0_0 i) (hc1 : cond0_1 i)
    (x0 : Vec F S1x128 .f32) (x1 : Vec F S4000x128 .f32) (x2 : Vec F S4000x512 .f32) (xs0 : Vec F S8x512 .f32) (xs1 : Vec F S8x1 .f32) :
    Σ' (L3 : List (View.Piece (Elt F) S8x512 .f32)), Σ' (LS0 : List (View.Piece (Elt F) S8x512 .f32)), { LS1 : List (View.Piece (Elt F) S8x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc0__dnd_kernel i arg1 harg1 arg2 harg2 arg3 harg3 arg4 harg4 arg5 harg5 arg6 harg6) K } := by
  refine ⟨?_, ?_, ?_, fun E K => ?run⟩
  case run =>
    simp only [cc0__dnd_kernel_eq_skeleton]; unfold cc0__dnd_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg5.eq_unread hfs0; obtain rfl := harg6.eq_unread hfs1
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [HS0]; · iexists _; iexact HS0
    iexists _; iexact HS1

end Cert.KernelIdeal.Hand

end
-- ==== Proof.Region0.lean ====
/- The first launch: what the scratch and the output hold after each grid point, and the body proved against it. -/
module

public import proofs.«01_k».proof.Proof.Run0C

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The first point stores nothing into the output's buffer: arbitrary contents, which nothing reads. -/
def out0_A_3 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : cond0_0 i) (hc1 : ¬cond0_1 i)
    (x0 : Vec F S1x128 .f32) (x1 : Vec F S4000x128 .f32) (x2 : Vec F S4000x512 .f32) : Vec F S8x512 .f32 :=
  VO0_3.read (Elt F) (VO0_3.writes (Elt F) VO0_3.junk (kernelRun0_A c i arg1 harg1 arg2 harg2 arg3 harg3 arg4 harg4 arg5 harg5 arg6 harg6 hc0 hc1 x0 x1 x2).1)

/-- The stores at the first point cover the accumulator of the weighted values. -/
theorem scover0_A_0 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : cond0_0 i) (hc1 : ¬cond0_1 i)
    (x0 : Vec F S1x128 .f32) (x1 : Vec F S4000x128 .f32) (x2 : Vec F S4000x512 .f32) (y : S8x512.Idx) :
    ∃ pc ∈ (kernelRun0_A c i arg1 harg1 arg2 harg2 arg3 harg3 arg4 harg4 arg5 harg5 arg6 harg6 hc0 hc1 x0 x1 x2).2.1, y ∈ pc.1.set :=
  View.cover_of_tiledL (kernelRun0_A c i arg1 harg1 arg2 harg2 arg3 harg3 arg4 harg4 arg5 harg5 arg6 harg6 hc0 hc1 x0 x1 x2).2.1 S8x512.size (by sl_kernel_rfl) y

/-- What the first point leaves in the accumulator of the weighted values. -/
def sout0_A_0 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : cond0_0 i) (hc1 : ¬cond0_1 i)
    (x0 : Vec F S1x128 .f32) (x1 : Vec F S4000x128 .f32) (x2 : Vec F S4000x512 .f32) : Vec F S8x512 .f32 :=
  VS0_0.read (Elt F) (VS0_0.writes (Elt F) VS0_0.junk (kernelRun0_A c i arg1 harg1 arg2 harg2 arg3 harg3 arg4 harg4 arg5 harg5 arg6 harg6 hc0 hc1 x0 x1 x2).2.1)

/-- The stores at the first point cover the accumulator of the weights. -/
theorem scover0_A_1 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : cond0_0 i) (hc1 : ¬cond0_1 i)
    (x0 : Vec F S1x128 .f32) (x1 : Vec F S4000x128 .f32) (x2 : Vec F S4000x512 .f32) (y : S8x1.Idx) :
    ∃ pc ∈ (kernelRun0_A c i arg1 harg1 arg2 harg2 arg3 harg3 arg4 harg4 arg5 harg5 arg6 harg6 hc0 hc1 x0 x1 x2).2.2.1, y ∈ pc.1.set :=
  View.cover_of_tiledL (kernelRun0_A c i arg1 harg1 arg2 harg2 arg3 harg3 arg4 harg4 arg5 harg5 arg6 harg6 hc0 hc1 x0 x1 x2).2.2.1 S8x1.size (by sl_kernel_rfl) y

/-- What the first point leaves in the accumulator of the weights. -/
def sout0_A_1 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : cond0_0 i) (hc1 : ¬cond0_1 i)
    (x0 : Vec F S1x128 .f32) (x1 : Vec F S4000x128 .f32) (x2 : Vec F S4000x512 .f32) : Vec F S8x1 .f32 :=
  VS0_1.read (Elt F) (VS0_1.writes (Elt F) VS0_1.junk (kernelRun0_A c i arg1 harg1 arg2 harg2 arg3 harg3 arg4 harg4 arg5 harg5 arg6 harg6 hc0 hc1 x0 x1 x2).2.2.1)

/-- A middle point stores nothing into the output's buffer: arbitrary contents, which nothing reads. -/
def out0_B_3 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : ¬cond0_0 i) (hc1 : ¬cond0_1 i)
    (x0 : Vec F S1x128 .f32) (x1 : Vec F S4000x128 .f32) (x2 : Vec F S4000x512 .f32) (xs0 : Vec F S8x512 .f32) (xs1 : Vec F S8x1 .f32) : Vec F S8x512 .f32 :=
  VO0_3.read (Elt F) (VO0_3.writes (Elt F) VO0_3.junk (kernelRun0_B c i arg1 harg1 arg2 harg2 arg3 harg3 arg4 harg4 arg5 harg5 arg6 harg6 hc0 hc1 x0 x1 x2 xs0 xs1).1)

/-- The stores at a middle point cover the accumulator of the weighted values. -/
theorem scover0_B_0 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : ¬cond0_0 i) (hc1 : ¬cond0_1 i)
    (x0 : Vec F S1x128 .f32) (x1 : Vec F S4000x128 .f32) (x2 : Vec F S4000x512 .f32) (xs0 : Vec F S8x512 .f32) (xs1 : Vec F S8x1 .f32) (y : S8x512.Idx) :
    ∃ pc ∈ (kernelRun0_B c i arg1 harg1 arg2 harg2 arg3 harg3 arg4 harg4 arg5 harg5 arg6 harg6 hc0 hc1 x0 x1 x2 xs0 xs1).2.1, y ∈ pc.1.set :=
  View.cover_of_tiledL (kernelRun0_B c i arg1 harg1 arg2 harg2 arg3 harg3 arg4 harg4 arg5 harg5 arg6 harg6 hc0 hc1 x0 x1 x2 xs0 xs1).2.1 S8x512.size (by sl_kernel_rfl) y

/-- What a middle point leaves in the accumulator of the weighted values. -/
def sout0_B_0 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : ¬cond0_0 i) (hc1 : ¬cond0_1 i)
    (x0 : Vec F S1x128 .f32) (x1 : Vec F S4000x128 .f32) (x2 : Vec F S4000x512 .f32) (xs0 : Vec F S8x512 .f32) (xs1 : Vec F S8x1 .f32) : Vec F S8x512 .f32 :=
  VS0_0.read (Elt F) (VS0_0.writes (Elt F) VS0_0.junk (kernelRun0_B c i arg1 harg1 arg2 harg2 arg3 harg3 arg4 harg4 arg5 harg5 arg6 harg6 hc0 hc1 x0 x1 x2 xs0 xs1).2.1)

/-- The stores at a middle point cover the accumulator of the weights. -/
theorem scover0_B_1 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : ¬cond0_0 i) (hc1 : ¬cond0_1 i)
    (x0 : Vec F S1x128 .f32) (x1 : Vec F S4000x128 .f32) (x2 : Vec F S4000x512 .f32) (xs0 : Vec F S8x512 .f32) (xs1 : Vec F S8x1 .f32) (y : S8x1.Idx) :
    ∃ pc ∈ (kernelRun0_B c i arg1 harg1 arg2 harg2 arg3 harg3 arg4 harg4 arg5 harg5 arg6 harg6 hc0 hc1 x0 x1 x2 xs0 xs1).2.2.1, y ∈ pc.1.set :=
  View.cover_of_tiledL (kernelRun0_B c i arg1 harg1 arg2 harg2 arg3 harg3 arg4 harg4 arg5 harg5 arg6 harg6 hc0 hc1 x0 x1 x2 xs0 xs1).2.2.1 S8x1.size (by sl_kernel_rfl) y

/-- What a middle point leaves in the accumulator of the weights. -/
def sout0_B_1 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : ¬cond0_0 i) (hc1 : ¬cond0_1 i)
    (x0 : Vec F S1x128 .f32) (x1 : Vec F S4000x128 .f32) (x2 : Vec F S4000x512 .f32) (xs0 : Vec F S8x512 .f32) (xs1 : Vec F S8x1 .f32) : Vec F S8x1 .f32 :=
  VS0_1.read (Elt F) (VS0_1.writes (Elt F) VS0_1.junk (kernelRun0_B c i arg1 harg1 arg2 harg2 arg3 harg3 arg4 harg4 arg5 harg5 arg6 harg6 hc0 hc1 x0 x1 x2 xs0 xs1).2.2.1)

/-- The store at the last point covers the output's buffer. -/
theorem cover0_C_3 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : ¬cond0_0 i) (hc1 : cond0_1 i)
    (x0 : Vec F S1x128 .f32) (x1 : Vec F S4000x128 .f32) (x2 : Vec F S4000x512 .f32) (xs0 : Vec F S8x512 .f32) (xs1 : Vec F S8x1 .f32) (y : S8x512.Idx) :
    ∃ pc ∈ (kernelRun0_C c i arg1 harg1 arg2 harg2 arg3 harg3 arg4 harg4 arg5 harg5 arg6 harg6 hc0 hc1 x0 x1 x2 xs0 xs1).1, y ∈ pc.1.set :=
  View.cover_of_tiledL (kernelRun0_C c i arg1 harg1 arg2 harg2 arg3 harg3 arg4 harg4 arg5 harg5 arg6 harg6 hc0 hc1 x0 x1 x2 xs0 xs1).1 S8x512.size (by sl_kernel_rfl) y

/-- What the last point leaves in the output's buffer. -/
def out0_C_3 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : ¬cond0_0 i) (hc1 : cond0_1 i)
    (x0 : Vec F S1x128 .f32) (x1 : Vec F S4000x128 .f32) (x2 : Vec F S4000x512 .f32) (xs0 : Vec F S8x512 .f32) (xs1 : Vec F S8x1 .f32) : Vec F S8x512 .f32 :=
  VO0_3.read (Elt F) (VO0_3.writes (Elt F) VO0_3.junk (kernelRun0_C c i arg1 harg1 arg2 harg2 arg3 harg3 arg4 harg4 arg5 harg5 arg6 harg6 hc0 hc1 x0 x1 x2 xs0 xs1).1)

/-- The stores at the last point cover the accumulator of the weighted values. -/
theorem scover0_C_0 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : ¬cond0_0 i) (hc1 : cond0_1 i)
    (x0 : Vec F S1x128 .f32) (x1 : Vec F S4000x128 .f32) (x2 : Vec F S4000x512 .f32) (xs0 : Vec F S8x512 .f32) (xs1 : Vec F S8x1 .f32) (y : S8x512.Idx) :
    ∃ pc ∈ (kernelRun0_C c i arg1 harg1 arg2 harg2 arg3 harg3 arg4 harg4 arg5 harg5 arg6 harg6 hc0 hc1 x0 x1 x2 xs0 xs1).2.1, y ∈ pc.1.set :=
  View.cover_of_tiledL (kernelRun0_C c i arg1 harg1 arg2 harg2 arg3 harg3 arg4 harg4 arg5 harg5 arg6 harg6 hc0 hc1 x0 x1 x2 xs0 xs1).2.1 S8x512.size (by sl_kernel_rfl) y

/-- What the last point leaves in the accumulator of the weighted values. -/
def sout0_C_0 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : ¬cond0_0 i) (hc1 : cond0_1 i)
    (x0 : Vec F S1x128 .f32) (x1 : Vec F S4000x128 .f32) (x2 : Vec F S4000x512 .f32) (xs0 : Vec F S8x512 .f32) (xs1 : Vec F S8x1 .f32) : Vec F S8x512 .f32 :=
  VS0_0.read (Elt F) (VS0_0.writes (Elt F) VS0_0.junk (kernelRun0_C c i arg1 harg1 arg2 harg2 arg3 harg3 arg4 harg4 arg5 harg5 arg6 harg6 hc0 hc1 x0 x1 x2 xs0 xs1).2.1)

/-- The stores at the last point cover the accumulator of the weights. -/
theorem scover0_C_1 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : ¬cond0_0 i) (hc1 : cond0_1 i)
    (x0 : Vec F S1x128 .f32) (x1 : Vec F S4000x128 .f32) (x2 : Vec F S4000x512 .f32) (xs0 : Vec F S8x512 .f32) (xs1 : Vec F S8x1 .f32) (y : S8x1.Idx) :
    ∃ pc ∈ (kernelRun0_C c i arg1 harg1 arg2 harg2 arg3 harg3 arg4 harg4 arg5 harg5 arg6 harg6 hc0 hc1 x0 x1 x2 xs0 xs1).2.2.1, y ∈ pc.1.set :=
  View.cover_of_tiledL (kernelRun0_C c i arg1 harg1 arg2 harg2 arg3 harg3 arg4 harg4 arg5 harg5 arg6 harg6 hc0 hc1 x0 x1 x2 xs0 xs1).2.2.1 S8x1.size (by sl_kernel_rfl) y

/-- What the last point leaves in the accumulator of the weights. -/
def sout0_C_1 (c : Dev nD) (i : grid0.Coords) (arg1 : Memref sig .tc .vmem S1x128 .f32) (harg1 : arg1.IsWhole) (arg2 : Memref sig .tc .vmem S4000x128 .f32) (harg2 : arg2.IsWhole) (arg3 : Memref sig .tc .vmem S4000x512 .f32) (harg3 : arg3.IsWhole) (arg4 : Memref sig .tc .vmem S8x512 .f32) (harg4 : arg4.IsWhole) (arg5 : Memref sig .tc .vmem S8x512 .f32) (harg5 : arg5.IsWhole) (arg6 : Memref sig .tc .vmem S8x1 .f32) (harg6 : arg6.IsWhole) (hc0 : ¬cond0_0 i) (hc1 : cond0_1 i)
    (x0 : Vec F S1x128 .f32) (x1 : Vec F S4000x128 .f32) (x2 : Vec F S4000x512 .f32) (xs0 : Vec F S8x512 .f32) (xs1 : Vec F S8x1 .f32) : Vec F S8x1 .f32 :=
  VS0_1.read (Elt F) (VS0_1.writes (Elt F) VS0_1.junk (kernelRun0_C c i arg1 harg1 arg2 harg2 arg3 harg3 arg4 harg4 arg5 harg5 arg6 harg6 hc0 hc1 x0 x1 x2 xs0 xs1).2.2.1)

/-! ## What the outputs hold after each point -/

/-- What the output's buffer and the two accumulators hold after point `n`, point by point: the first point starts anew, every
    other goes on from what the point before left. -/
def outsAt0 (c : Dev nD) : (n : ℕ) → n < cfg0.N → Vec F S8x512 .f32 × Vec F S8x512 .f32 × Vec F S8x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) scM0_1 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩))
  | n + 1, hn =>
    if h0 : (n + 1) % 25 = 0 then
      if h1 : (n + 1) % 25 = 24 then
        False.elim (by have hN : n + 1 < 25 := lt_of_lt_of_eq hn (show cfg0.N = 25 from N_0); omega)
      else
        (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩))
    else
      if h1 : (n + 1) % 25 = 24 then
        (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)
      else
        (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) scM0_1 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2.1 (outsAt0 c n (Nat.lt_of_succ_lt hn)).2.2)

/-- What is held after the first point. -/
theorem outsAt0_A (c : Dev nD) (t : Fin cfg0.N) (h0 : t.val % 25 = 0) (h1 : ¬t.val % 25 = 24) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t), sout0_A_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) ((hcond0_0 t).mpr h0) (fun h => h1 ((hcond0_1 t).mp h)) (iblk0 V c 0 t) (iblk0 V c 1 t) (iblk0 V c 2 t)) := by
  obtain ⟨n, hn⟩ := t
  cases n with
  | zero => exact rfl
  | succ n => exact (dif_pos h0).trans ((dif_neg h1).trans rfl)

/-- What is held after a middle point. -/
theorem outsAt0_B (c : Dev nD) (t : Fin cfg0.N) (h0 : ¬t.val % 25 = 0) (h1 : ¬t.val % 25 = 24) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) (fun h => h1 ((hcond0_1 t).mp h)) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- What is held after the last point. -/
theorem outsAt0_C (c : Dev nD) (t : Fin cfg0.N) (h0 : ¬t.val % 25 = 0) (h1 : t.val % 25 = 24) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) scM0_0 (Memref.isWhole_whole _) scM0_1 (Memref.isWhole_whole _) (fun h => h0 ((hcond0_0 t).mp h)) ((hcond0_1 t).mpr h1) (iblk0 V c 0 t) (iblk0 V c 1 t) (iblk0 V c 2 t) (outsAt0 V c (t.val - 1) (Nat.lt_of_le_of_lt (Nat.sub_le _ _) t.isLt)).2.1 (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- What the call carries from point to point: before the first point anything in the accumulators, later what the point
    before left there. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2.1) ∗ owns (c : Thread nD τ) scM0_1 fullShare ((outsAt0 V c n hn).2.2) ∗ Others0 c) ∗ (∃ r, prngReg c r))

/-- Before the first point. -/
theorem PhiS_zero (c : Dev nD) (n : ℕ) (h : n ≤ cfg0.N) (hz : n = 0) : PhiS V c n h = Pipeline.ΦA spec0 c := by
  subst hz; rfl

/-- After point `n`. -/
theorem PhiS_succ (c : Dev nD) (n : ℕ) (hn : n < cfg0.N) :
    PhiS V c (n + 1) hn = iprop(iprop(owns (c : Thread nD τ) scM0_0 fullShare ((outsAt0 V c n hn).2.1) ∗ owns (c : Thread nD τ) scM0_1 fullShare ((outsAt0 V c n hn).2.2) ∗ Others0 c) ∗ (∃ r, prngReg c r)) := rfl

/-- Before a point that is not the first. -/
theorem PhiS_pos (c : Dev nD) (n : ℕ) (h : n ≤ cfg0.N) (hz : n ≠ 0) :
    PhiS V c n h = iprop(iprop(owns (c : Thread nD τ) scM0_0 fullShare ((outsAt0 V c (n - 1) (by omega)).2.1) ∗ owns (c : Thread nD τ) scM0_1 fullShare ((outsAt0 V c (n - 1) (by omega)).2.2) ∗ Others0 c) ∗ (∃ r, prngReg c r)) := by
  cases n with
  | zero => exact absurd rfl hz
  | succ n => rfl

/-! ## The pipeline's proof data -/

/-- The proof data of the first call: the arrays as it finds them, each input's buffer at its block and the output's at what the
    point leaves, and the accumulators in between. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

/-- Its arrays are those found at entry. -/
theorem A_eq0 (c : Dev nD) (w : Fin cfg0.W) : (dat0 V c).A w = V c (Pipeline.arrRef spec0 w) := by
  dsimp only [dat0]

/-- What is carried at a point's start. -/
theorem PhiS_castSucc (c : Dev nD) (t : Fin cfg0.N) :
    (dat0 V c).Φ t.castSucc = PhiS V c t.val (Nat.le_of_lt t.isLt) := by
  dsimp only [dat0]; exact Pipeline.Dat.Φ_castSucc (PhiS V c) t

/-- The body leaves input window 0's block in place. -/
theorem after0_0 (c : Dev nD) (t : Fin cfg0.N) : (dat0 V c).after 0 t = iblk0 V c 0 t := by dsimp only [dat0]
/-- The body leaves input window 1's block in place. -/
theorem after0_1 (c : Dev nD) (t : Fin cfg0.N) : (dat0 V c).after 1 t = iblk0 V c 1 t := by dsimp only [dat0]
/-- The body leaves input window 2's block in place. -/
theorem after0_2 (c : Dev nD) (t : Fin cfg0.N) : (dat0 V c).after 2 t = iblk0 V c 2 t := by dsimp only [dat0]
/-- The body leaves the output's buffer at the point's contents. -/
theorem after0_3 (c : Dev nD) (t : Fin cfg0.N) : (dat0 V c).after 3 t = (outsAt0 V c t.val t.isLt).1 := by dsimp only [dat0]

/-- Input window 0's current staging buffer holds its block at every point, whether it was fetched there or earlier. -/
theorem before0_0 (c : Dev nD) (t : Fin cfg0.N) (d) : (dat0 V c).before 0 t d = iblk0 V c 0 t :=
  (dat0 V c).before_in_eq_fetched 0 rfl (fun _ => rfl) (fun _ _ _ => rfl) (fun t => after0_0 V c t) t d
/-- Input window 1's current staging buffer holds its block at every point, whether it was fetched there or earlier. -/
theorem before0_1 (c : Dev nD) (t : Fin cfg0.N) (d) : (dat0 V c).before 1 t d = iblk0 V c 1 t :=
  (dat0 V c).before_in_eq_fetched 1 rfl (fun _ => rfl) (fun _ _ _ => rfl) (fun t => after0_1 V c t) t d
/-- Input window 2's current staging buffer holds its block at every point, whether it was fetched there or earlier. -/
theorem before0_2 (c : Dev nD) (t : Fin cfg0.N) (d) : (dat0 V c).before 2 t d = iblk0 V c 2 t :=
  (dat0 V c).before_in_eq_fetched 2 rfl (fun _ => rfl) (fun _ _ _ => rfl) (fun t => after0_2 V c t) t d

/-! ## The body obligation, at a generic point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point takes the one to the other. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  have hN : t.val < 25 := lt_of_lt_of_eq t.isLt (show cfg0.N = 25 from N_0)
  by_cases h0 : t.val % 25 = 0
  · by_cases h1 : t.val % 25 = 24
    · exfalso; omega
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [Dat.leavesExact_idle (dat0 V c) 3 t (idleAt0_3_A t ((hcond0_0 t).mpr h0) (fun h => h1 ((hcond0_1 t).mp h))) (noFlush0_3_A t ((hcond0_0 t).mpr h0) (fun h => h1 ((hcond0_1 t).mp h)))]
      by_cases hz : t.val = 0
      · rw [PhiS_castSucc V c t, PhiS_zero V c _ _ hz, PhiA0_eq]
        rw [outsAt0_A V c t h0 h1]
        unfold sout0_A_0 sout0_A_1; (try dsimp only)
        iintro ⟨⟨⟨HS0, HS1, HZ⟩, Hg⟩, Ho, ⟨%d0, H0⟩, ⟨%d1, H1⟩, ⟨%d2, H2⟩, ⟨%d3, H3⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t)).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HZ Hg]
        · isplitl [HS0 HS1 HZ]
          · isplitl [HS0]
            · unfold owns; iexists _; isplitr
              swap; · iexact HS0
              ipureintro; exact View.read_writes_of_cover _ _ _ _ _ (scover0_A_0 c _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _)
            iexact HZ
          iexact Hg
        isplitl [Ho]; · iexact Ho
        isplitl [H0]; · iexact H0
        isplitl [H1]; · iexact H1
        isplitl [H2]; · iexact H2
        iexists _; iexact H3
      · exfalso; have hN : t.val < 25 := lt_of_lt_of_eq t.isLt (show cfg0.N = 25 from N_0); omega
  · by_cases h1 : t.val % 25 = 24
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [show (dat0 V c).leavesExact 3 t = owns (c : Thread nD τ) (ms0_3 t) fullShare ((dat0 V c).after 3 t) from by
      unfold Dat.leavesExact; rw [liveAt0_3_C t (fun h => h0 ((hcond0_0 t).mp h)) ((hcond0_1 t).mpr h1)], after0_3]
      by_cases hz : t.val = 0
      · exfalso; have hN : t.val < 25 := lt_of_lt_of_eq t.isLt (show cfg0.N = 25 from N_0); omega
      · rw [PhiS_castSucc V c t, PhiS_pos V c _ _ hz]
        rw [outsAt0_C V c t h0 h1]
        unfold out0_C_3 sout0_C_0 sout0_C_1; (try dsimp only)
        iintro ⟨⟨⟨HS0, HS1, HZ⟩, Hg⟩, Ho, ⟨%d0, H0⟩, ⟨%d1, H1⟩, ⟨%d2, H2⟩, ⟨%d3, H3⟩⟩
        iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) _ _).2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        iintro ⟨H0, H1, H2, ⟨%e3, H3⟩, ⟨%es0, HS0⟩, ⟨%es1, HS1⟩⟩
        isplitl [HS0 HS1 HZ Hg]
        · isplitl [HS0 HS1 HZ]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _)
            iexact HZ
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover0_C_3 c _ _ _ _ _ _ _ _ _ _ _ _ _ _ _ _ _ _ _ _)
    · rw [show (dat0 V c).leavesExact 0 t = owns (c : Thread nD τ) (ms0_0 t) fullShare ((dat0 V c).after 0 t) from by
      unfold Dat.leavesExact; rw [liveAt0_0 t], after0_0]
      rw [show (dat0 V c).leavesExact 1 t = owns (c : Thread nD τ) (ms0_1 t) fullShare ((dat0 V c).after 1 t) from by
      unfold Dat.leavesExact; rw [liveAt0_1 t], after0_1]
      rw [show (dat0 V c).leavesExact 2 t = owns (c : Thread nD τ) (ms0_2 t) fullShare ((dat0 V c).after 2 t) from by
      unfold Dat.leavesExact; rw [liveAt0_2 t], after0_2]
      rw [Dat.leavesExact_idle (dat0 V c) 3 t (idleAt0_3_B t (fun h => h0 ((hcond0_0 t).mp h)) (fun h => h1 ((hcond0_1 t).mp h))) (noFlush0_3_B t (fun h => h0 ((hcond0_0 t).mp h)) (fun h => h1 ((hcond0_1 t).mp h)))]
      by_cases hz : t.val = 0
      · exfalso; have hN : t.val < 25 := lt_of_lt_of_eq t.isLt (show cfg0.N = 25 from N_0); omega
      · rw [PhiS_castSucc V c t, PhiS_pos V c _ _ hz]
        rw [outsAt0_B V c t h0 h1]
        unfold sout0_B_0 sout0_B_1; (try dsimp only)
        iintro ⟨⟨⟨HS0, HS1, HZ⟩, Hg⟩, Ho, ⟨%d0, H0⟩, ⟨%d1, H1⟩, ⟨%d2, H2⟩, ⟨%d3, H3⟩⟩
        iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) _ _).2.2.2 _ Set.univ _)
        isplitl [H0]; · iexact H0
        isplitl [H1]; · iexact H1
        isplitl [H2]; · iexact H2
        isplitl [H3]; · iexact H3
        isplitl [HS0]; · iexact HS0
        isplitl [HS1]; · iexact HS1
        iintro ⟨H0, H1, H2, H3, ⟨%es0, HS0⟩, ⟨%es1, HS1⟩⟩
        isplitl [HS0 HS1 HZ Hg]
        · isplitl [HS0 HS1 HZ]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _)
            iexact HZ
          iexact Hg
        isplitl [Ho]; · iexact Ho
        isplitl [H0]; · iexact H0
        isplitl [H1]; · iexact H1
        isplitl [H2]; · iexact H2
        iexists _; iexact H3

/-- The body the call runs at point `t`. -/
theorem defs₀_row0 (t : Fin cfg0.N) :
    defs₀ (F := F) .tc cfg0.body (cfg0.bodyArgs t (cfg0.slots t)) = bodyAt0 t := by
  unfold defs₀; rw [Defs.onTc_tc]

/-- What the library asks of the body, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the call starts from is what is carried before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point the accumulators' contents may be forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HZ⟩, Hg⟩
  isplitl [HS0 HS1 HZ]
  · isplitl [HS0]
    · iexists _; iexact HS0
    isplitl [HS1]
    · iexists _; iexact HS1
    iexact HZ
  iexact Hg

/-- The same after the last point. -/
theorem hout0 (c : Dev nD) : (dat0 V c).Φ (Fin.last cfg0.N) ⊢ Pipeline.ΦA spec0 c :=
  Phi_out V c _ (by rw [Fin.val_last]; have : cfg0.N = 25 := N_0; omega)

end Cert.KernelIdeal.Hand

end
-- ==== Proof.Region1.lean ====
/- The second launch: the blocks each grid point reads, what it leaves in each output, and the body proved against it. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The second call -/

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

abbrev r1_0 : Rect S256x1024 := Rect.unit (s := S256x1024) ![0, 0] S256x1024.size inb_S256x1024_S256x1024_0_0
abbrev r1_1 : Rect S2560x1024 := Rect.unit (s := S2560x1024) ![0, 0] S2560x1024.size inb_S2560x1024_S2560x1024_0_0
abbrev r1_2 : Rect S256x512 := Rect.unit (s := S256x512) ![0, 0] S256x512.size inb_S256x512_S256x512_0_0
abbrev r1_3 : Rect S2560x512 := Rect.unit (s := S2560x512) ![0, 0] S2560x512.size inb_S2560x512_S2560x512_0_0
abbrev r1_4 : Rect S1x2560 := Rect.unit (s := S1x2560) ![0, 0] S1x2560.size inb_S1x2560_S1x2560_0_0
abbrev r1_5 : Rect S8x512 := Rect.unit (s := S8x512) ![0, 0] S1x512.size inb_S8x512_S1x512_0_0

/-! ## What the body leaves in each output window's buffer -/

/-- One store of a whole block covers an output window's buffer. -/
theorem cover1 (p0 : Vec F S256x512 .f32) (y : S256x512.Idx) :
    ∃ pc ∈ ([⟨r1_2, p0⟩] : List (View.Piece (Elt F) S256x512 .f32)), y ∈ pc.1.set :=
  View.cover_of_tiled [⟨r1_2, p0⟩] S256x512.size (by rfl) y

/-- Window 7's staging buffer after the body, from the input windows' blocks: the block's rows of the new hidden state. -/
def out1_7 (x0 : Vec F S256x1024 .f32) (x1 : Vec F S256x512 .f32) (x2 : Vec F S256x512 .f32) (x3 : Vec F S2560x1024 .f32) (x4 : Vec F S2560x512 .f32) (x5 : Vec F S1x2560 .f32) (x6 : Vec F S8x512 .f32) : Vec F S256x512 .f32 :=
  View.canon [⟨r1_2, k1_pay7 (View.ld x0 r1_0) (View.ld x3 r1_1) (View.ld x1 r1_2) (View.ld x4 r1_3) (View.ld x5 r1_4) (View.ld x2 r1_2) (View.ld x6 r1_5)⟩]

/-- Window 8's staging buffer after the body, from the input windows' blocks: the block's rows of the new cell state. -/
def out1_8 (x0 : Vec F S256x1024 .f32) (x1 : Vec F S256x512 .f32) (x2 : Vec F S256x512 .f32) (x3 : Vec F S2560x1024 .f32) (x4 : Vec F S2560x512 .f32) (x5 : Vec F S1x2560 .f32) (x6 : Vec F S8x512 .f32) : Vec F S256x512 .f32 :=
  View.canon [⟨r1_2, k1_pay6 (View.ld x0 r1_0) (View.ld x3 r1_1) (View.ld x1 r1_2) (View.ld x4 r1_3) (View.ld x5 r1_4) (View.ld x2 r1_2)⟩]

/-- Window 9's staging buffer after the body, from the input windows' blocks: the block's rows of the forget gate. -/
def out1_9 (x0 : Vec F S256x1024 .f32) (x1 : Vec F S256x512 .f32) (x2 : Vec F S256x512 .f32) (x3 : Vec F S2560x1024 .f32) (x4 : Vec F S2560x512 .f32) (x5 : Vec F S1x2560 .f32) (x6 : Vec F S8x512 .f32) : Vec F S256x512 .f32 :=
  View.canon [⟨r1_2, k1_pay2 (View.ld x0 r1_0) (View.ld x3 r1_1) (View.ld x1 r1_2) (View.ld x4 r1_3) (View.ld x5 r1_4)⟩]

/-- Window 10's staging buffer after the body, from the input windows' blocks: the block's rows of the input gate. -/
def out1_10 (x0 : Vec F S256x1024 .f32) (x1 : Vec F S256x512 .f32) (x2 : Vec F S256x512 .f32) (x3 : Vec F S2560x1024 .f32) (x4 : Vec F S2560x512 .f32) (x5 : Vec F S1x2560 .f32) (x6 : Vec F S8x512 .f32) : Vec F S256x512 .f32 :=
  View.canon [⟨r1_2, k1_pay3 (View.ld x0 r1_0) (View.ld x3 r1_1) (View.ld x1 r1_2) (View.ld x4 r1_3) (View.ld x5 r1_4)⟩]

/-- Window 11's staging buffer after the body, from the input windows' blocks: the block's rows of the output gate. -/
def out1_11 (x0 : Vec F S256x1024 .f32) (x1 : Vec F S256x512 .f32) (x2 : Vec F S256x512 .f32) (x3 : Vec F S2560x1024 .f32) (x4 : Vec F S2560x512 .f32) (x5 : Vec F S1x2560 .f32) (x6 : Vec F S8x512 .f32) : Vec F S256x512 .f32 :=
  View.canon [⟨r1_2, k1_pay4 (View.ld x0 r1_0) (View.ld x3 r1_1) (View.ld x1 r1_2) (View.ld x4 r1_3) (View.ld x5 r1_4)⟩]

/-- Window 12's staging buffer after the body, from the input windows' blocks: the block's rows of the reinstatement gate. -/
def out1_12 (x0 : Vec F S256x1024 .f32) (x1 : Vec F S256x512 .f32) (x2 : Vec F S256x512 .f32) (x3 : Vec F S2560x1024 .f32) (x4 : Vec F S2560x512 .f32) (x5 : Vec F S1x2560 .f32) (x6 : Vec F S8x512 .f32) : Vec F S256x512 .f32 :=
  View.canon [⟨r1_2, k1_pay5 (View.ld x0 r1_0) (View.ld x3 r1_1) (View.ld x1 r1_2) (View.ld x4 r1_3) (View.ld x5 r1_4)⟩]

/-! ## The body's triple -/

set_option maxHeartbeats 1000000 in
/-- The body, run on whole buffers, leaves the inputs as they were and each output at its contents. -/
theorem sound_kernel1 (c : Dev nD) (E : Set ℕ) (i : grid1.Coords) (arg1 : Memref sig .tc .vmem S256x1024 .f32) (harg1 : arg1.IsWhole) (arg2 : Memref sig .tc .vmem S256x512 .f32) (harg2 : arg2.IsWhole) (arg3 : Memref sig .tc .vmem S256x512 .f32) (harg3 : arg3.IsWhole) (arg4 : Memref sig .tc .vmem S2560x1024 .f32) (harg4 : arg4.IsWhole) (arg5 : Memref sig .tc .vmem S2560x512 .f32) (harg5 : arg5.IsWhole) (arg6 : Memref sig .tc .vmem S1x2560 .f32) (harg6 : arg6.IsWhole) (arg7 : Memref sig .tc .vmem S8x512 .f32) (harg7 : arg7.IsWhole) (arg8 : Memref sig .tc .vmem S256x512 .f32) (harg8 : arg8.IsWhole) (arg9 : Memref sig .tc .vmem S256x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S256x512 .f32) (harg13 : arg13.IsWhole)
    (x0 : Vec F S256x1024 .f32) (x1 : Vec F S256x512 .f32) (x2 : Vec F S256x512 .f32) (x3 : Vec F S2560x1024 .f32) (x4 : Vec F S2560x512 .f32) (x5 : Vec F S1x2560 .f32) (x6 : Vec F S8x512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out1_7 x0 x1 x2 x3 x4 x5 x6) ∗ owns (c : Thread nD τ) arg9 fullShare (out1_8 x0 x1 x2 x3 x4 x5 x6) ∗ owns (c : Thread nD τ) arg10 fullShare (out1_9 x0 x1 x2 x3 x4 x5 x6) ∗ owns (c : Thread nD τ) arg11 fullShare (out1_10 x0 x1 x2 x3 x4 x5 x6) ∗ owns (c : Thread nD τ) arg12 fullShare (out1_11 x0 x1 x2 x3 x4 x5 x6) ∗ owns (c : Thread nD τ) arg13 fullShare (out1_12 x0 x1 x2 x3 x4 x5 x6)) -∗ K ⟨⟩))
      ⊢ wp frame (wpE (defs₀ (F := F)) Variants.none c none) E (cc1__lstm_kernel i arg1 harg1 arg2 harg2 arg3 harg3 arg4 harg4 arg5 harg5 arg6 harg6 arg7 harg7 arg8 harg8 arg9 harg9 arg10 harg10 arg11 harg11 arg12 harg12 arg13 harg13) K := by
  simp only [cc1__lstm_kernel_eq_skeleton]; unfold cc1__lstm_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover1 _)
  isplitl [H8]
  · iexists _; isplitr
    swap; · iexact H8
    ipureintro
    exact View.read_writes_eq_canon _ _ _ (cover1 _)
  isplitl [H9]
  · iexists _; isplitr
    swap; · iexact H9
    ipureintro
    exact View.read_writes_eq_canon _ _ _ (cover1 _)
  isplitl [H10]
  · iexists _; isplitr
    swap; · iexact H10
    ipureintro
    exact View.read_writes_eq_canon _ _ _ (cover1 _)
  isplitl [H11]
  · iexists _; isplitr
    swap; · iexact H11
    ipureintro
    exact View.read_writes_eq_canon _ _ _ (cover1 _)
  iexists _; isplitr
  swap; · iexact H12
  ipureintro
  exact View.read_writes_eq_canon _ _ _ (cover1 _)

/-! ## The pipeline's proof data -/

/-- The proof data of the second call: the arrays as it finds them, each input's buffer at its block, each output's at what the
    body computes from the blocks. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 (iblk1 V c 0 t) (iblk1 V c 1 t) (iblk1 V c 2 t) (iblk1 V c 3 t) (iblk1 V c 4 t) (iblk1 V c 5 t) (iblk1 V c 6 t)
    | ⟨8, _⟩ => out1_8 (iblk1 V c 0 t) (iblk1 V c 1 t) (iblk1 V c 2 t) (iblk1 V c 3 t) (iblk1 V c 4 t) (iblk1 V c 5 t) (iblk1 V c 6 t)
    | ⟨9, _⟩ => out1_9 (iblk1 V c 0 t) (iblk1 V c 1 t) (iblk1 V c 2 t) (iblk1 V c 3 t) (iblk1 V c 4 t) (iblk1 V c 5 t) (iblk1 V c 6 t)
    | ⟨10, _⟩ => out1_10 (iblk1 V c 0 t) (iblk1 V c 1 t) (iblk1 V c 2 t) (iblk1 V c 3 t) (iblk1 V c 4 t) (iblk1 V c 5 t) (iblk1 V c 6 t)
    | ⟨11, _⟩ => out1_11 (iblk1 V c 0 t) (iblk1 V c 1 t) (iblk1 V c 2 t) (iblk1 V c 3 t) (iblk1 V c 4 t) (iblk1 V c 5 t) (iblk1 V c 6 t)
    | ⟨12, _⟩ => out1_12 (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

/-- Its arrays are those found at entry. -/
theorem A_eq1 (c : Dev nD) (w : Fin cfg1.W) : (dat1 V c).A w = V c (Pipeline.arrRef spec1 w) := by
  dsimp only [dat1]

/-- The body leaves input window 0's block in place. -/
theorem after1_0 (c : Dev nD) (t : Fin cfg1.N) : (dat1 V c).after 0 t = iblk1 V c 0 t := by dsimp only [dat1]
/-- The body leaves input window 1's block in place. -/
theorem after1_1 (c : Dev nD) (t : Fin cfg1.N) : (dat1 V c).after 1 t = iblk1 V c 1 t := by dsimp only [dat1]
/-- The body leaves input window 2's block in place. -/
theorem after1_2 (c : Dev nD) (t : Fin cfg1.N) : (dat1 V c).after 2 t = iblk1 V c 2 t := by dsimp only [dat1]
/-- The body leaves input window 3's block in place. -/
theorem after1_3 (c : Dev nD) (t : Fin cfg1.N) : (dat1 V c).after 3 t = iblk1 V c 3 t := by dsimp only [dat1]
/-- The body leaves input window 4's block in place. -/
theorem after1_4 (c : Dev nD) (t : Fin cfg1.N) : (dat1 V c).after 4 t = iblk1 V c 4 t := by dsimp only [dat1]
/-- The body leaves input window 5's block in place. -/
theorem after1_5 (c : Dev nD) (t : Fin cfg1.N) : (dat1 V c).after 5 t = iblk1 V c 5 t := by dsimp only [dat1]
/-- The body leaves input window 6's block in place. -/
theorem after1_6 (c : Dev nD) (t : Fin cfg1.N) : (dat1 V c).after 6 t = iblk1 V c 6 t := by dsimp only [dat1]
/-- What the body leaves in output window 7's buffer. -/
theorem after1_7 (c : Dev nD) (t : Fin cfg1.N) : (dat1 V c).after 7 t = out1_7 (iblk1 V c 0 t) (iblk1 V c 1 t) (iblk1 V c 2 t) (iblk1 V c 3 t) (iblk1 V c 4 t) (iblk1 V c 5 t) (iblk1 V c 6 t) := by dsimp only [dat1]
/-- What the body leaves in output window 8's buffer. -/
theorem after1_8 (c : Dev nD) (t : Fin cfg1.N) : (dat1 V c).after 8 t = out1_8 (iblk1 V c 0 t) (iblk1 V c 1 t) (iblk1 V c 2 t) (iblk1 V c 3 t) (iblk1 V c 4 t) (iblk1 V c 5 t) (iblk1 V c 6 t) := by dsimp only [dat1]
/-- What the body leaves in output window 9's buffer. -/
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) := by dsimp only [dat1]
/-- What the body leaves in output window 10's buffer. -/
theorem after1_10 (c : Dev nD) (t : Fin cfg1.N) : (dat1 V c).after 10 t = out1_10 (iblk1 V c 0 t) (iblk1 V c 1 t) (iblk1 V c 2 t) (iblk1 V c 3 t) (iblk1 V c 4 t) (iblk1 V c 5 t) (iblk1 V c 6 t) := by dsimp only [dat1]
/-- What the body leaves in output window 11's buffer. -/
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) := by dsimp only [dat1]
/-- What the body leaves in output window 12's buffer. -/
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) := by dsimp only [dat1]

/-- Input window 0's current staging buffer holds its block at every point, whether it was fetched there or earlier. -/
theorem before1_0 (c : Dev nD) (t : Fin cfg1.N) (d) : (dat1 V c).before 0 t d = iblk1 V c 0 t :=
  (dat1 V c).before_in_eq_fetched 0 rfl (fun _ => rfl) (fun _ _ _ => rfl) (fun t => after1_0 V c t) t d
/-- Input window 1's current staging buffer holds its block at every point, whether it was fetched there or earlier. -/
theorem before1_1 (c : Dev nD) (t : Fin cfg1.N) (d) : (dat1 V c).before 1 t d = iblk1 V c 1 t :=
  (dat1 V c).before_in_eq_fetched 1 rfl (fun _ => rfl) (fun _ _ _ => rfl) (fun t => after1_1 V c t) t d
/-- Input window 2's current staging buffer holds its block at every point, whether it was fetched there or earlier. -/
theorem before1_2 (c : Dev nD) (t : Fin cfg1.N) (d) : (dat1 V c).before 2 t d = iblk1 V c 2 t :=
  (dat1 V c).before_in_eq_fetched 2 rfl (fun _ => rfl) (fun _ _ _ => rfl) (fun t => after1_2 V c t) t d
/-- Input window 3's current staging buffer holds its block at every point, whether it was fetched there or earlier. -/
theorem before1_3 (c : Dev nD) (t : Fin cfg1.N) (d) : (dat1 V c).before 3 t d = iblk1 V c 3 t :=
  (dat1 V c).before_in_eq_fetched 3 rfl (fun _ => rfl) (fun _ _ _ => rfl) (fun t => after1_3 V c t) t d
/-- Input window 4's current staging buffer holds its block at every point, whether it was fetched there or earlier. -/
theorem before1_4 (c : Dev nD) (t : Fin cfg1.N) (d) : (dat1 V c).before 4 t d = iblk1 V c 4 t :=
  (dat1 V c).before_in_eq_fetched 4 rfl (fun _ => rfl) (fun _ _ _ => rfl) (fun t => after1_4 V c t) t d
/-- Input window 5's current staging buffer holds its block at every point, whether it was fetched there or earlier. -/
theorem before1_5 (c : Dev nD) (t : Fin cfg1.N) (d) : (dat1 V c).before 5 t d = iblk1 V c 5 t :=
  (dat1 V c).before_in_eq_fetched 5 rfl (fun _ => rfl) (fun _ _ _ => rfl) (fun t => after1_5 V c t) t d
/-- Input window 6's current staging buffer holds its block at every point, whether it was fetched there or earlier. -/
theorem before1_6 (c : Dev nD) (t : Fin cfg1.N) (d) : (dat1 V c).before 6 t d = iblk1 V c 6 t :=
  (dat1 V c).before_in_eq_fetched 6 rfl (fun _ => rfl) (fun _ _ _ => rfl) (fun t => after1_6 V c t) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

/-- The body at any point takes the one to the other. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ (grid1.coords t) _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body the call runs at point `t`. -/
theorem defs₀_row1 (t : Fin cfg1.N) :
    defs₀ (F := F) .tc cfg1.body (cfg1.bodyArgs t (cfg1.slots t)) = bodyAt1 t := by
  unfold defs₀; rw [Defs.onTc_tc]

/-- What the library asks of the body, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Hand

end
-- ==== Proof.Launch.lean ====
/- The whole program: its host stretches and its two launches in order, from the launch memory to the end. -/
module

public import proofs.«01_k».proof.Proof.Region0
public import proofs.«01_k».proof.Proof.Region1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The run, from the launch to the return -/

/-- The program's argument arrays. -/
abbrev argRefs : List (Ref sig .tc) := [main_arg0, main_arg1, main_arg2, main_arg3, main_arg4, main_arg5, main_arg6, main_arg7, main_arg8, main_arg9]

/-! ## The host code before and after the calls: what it writes -/

/-- The host code before the calls allocates no buffer. -/
theorem hostOps0_fresh : (hostOps0 : List (HloOp τ sig (Elt F))).Forall fun op => op.fresh = ∅ := by
  simp only [List.Forall]; repeat' constructor
/-- The arrays the host code before the calls writes, in order. -/
abbrev hostOps0_W : List (Ref sig .tc) := [main_call0_v0, main_call0_v1, main_call0_v2, main_call0_v3, main_call0_v4]
/-- The host code before the calls writes no other array. -/
theorem hostOps0_writes : (hostOps0 : List (HloOp τ sig (Elt F))).Forall fun op => op.writes ⊆ (hostOps0_W.map (Proc.devRef (τ := τ) .tc)).toFinset :=
  StableHlo.forall_writes_sub_of_map rfl
/-- None of them is an argument. -/
theorem hostOps0_args : ∀ a ∈ argRefs, a ∉ hostOps0_W := ListAll.forall_mem_of_all_decide (by decide +kernel)

/-- The host code after the calls allocates no buffer. -/
theorem hostOps2_fresh : (hostOps2 : List (HloOp τ sig (Elt F))).Forall fun op => op.fresh = ∅ := by
  simp only [List.Forall]; repeat' constructor
/-- The arrays the host code after the calls writes, in order. -/
abbrev hostOps2_W : List (Ref sig .tc) := [main_v0_0, main_v0_2]
/-- The host code after the calls writes no other array. -/
theorem hostOps2_writes : (hostOps2 : List (HloOp τ sig (Elt F))).Forall fun op => op.writes ⊆ (hostOps2_W.map (Proc.devRef (τ := τ) .tc)).toFinset :=
  StableHlo.forall_writes_sub_of_map rfl
/-- None of them is an argument. -/
theorem hostOps2_args : ∀ a ∈ argRefs, a ∉ hostOps2_W := ListAll.forall_mem_of_all_decide (by decide +kernel)

/-! ## The buffers' contents at each boundary: before the host code, after it, after either call, at the end -/

/-- Core `c`'s buffers at launch. -/
abbrev W0 : Dev nD → Valuation τ sig (Elt F) := fun c b => (s₀ m ρ).mem ((c : Dev nD), b)
/-- The arguments at launch are the memory's. -/
theorem W0_args (c : Dev nD) : ∀ a ∈ argRefs, W0 m ρ c (Proc.devRef .tc a) = m ((c : Thread nD τ).loc a) := fun _ _ => rfl
/-- After the host code before the calls. -/
abbrev W1 : Dev nD → Valuation τ sig (Elt F) := fun c => StableHlo.after hostOps0 (W0 m ρ c)
/-- An array that this host code does not write keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
/-- So the arguments do. -/
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same contents, as the first call takes them. -/
abbrev V1 : (c : Dev nD) → (b : Ref sig .tc) → Buf (Elt F) ((c : Thread nD τ).loc b) := fun c b => W1 m ρ c b
/-- After the first call: its arrays at what the call leaves in them, every other buffer as before. -/
def W2 (c : Dev nD) : Valuation τ sig (Elt F) :=
  Pipeline.withArrays spec0 c (W1 m ρ c) fun w => (dat0 (V1 m ρ) c).arrAt w cfg0.N
/-- The first call's arrays hold what it leaves in them. -/
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
/-- A buffer that is none of the first call's arrays keeps its contents. -/
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An array that the first call does not write keeps its contents: it is read only, or not touched. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- An argument among the first call's arrays is one it reads only. -/
theorem argsIn0 : ∀ a ∈ argRefs, ∀ w : Fin cfg0.W, Pipeline.arrRef spec0 w = a → (cfg0.win w).isOut = false :=
  ListAll.forall_mem_of_all_decide (by decide +kernel)
/-- So the arguments are unchanged after the first call. -/
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same contents, as the second call takes them. -/
abbrev V2 : (c : Dev nD) → (b : Ref sig .tc) → Buf (Elt F) ((c : Thread nD τ).loc b) := fun c b => W2 m ρ c b
/-- The first call's arrays at its exit, read from the boundary's contents. -/
theorem hF0 (c : Dev nD) (w : Fin cfg0.W) : (dat0 (V1 m ρ) c).arrAt w cfg0.N = V2 m ρ c (Pipeline.arrRef spec0 w) :=
  (W2_arr m ρ c w).symm
/-- Every other buffer is as it was at the first call's entry. -/
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second call: its arrays at what the call leaves in them, every other buffer as before. -/
def W3 (c : Dev nD) : Valuation τ sig (Elt F) :=
  Pipeline.withArrays spec1 c (W2 m ρ c) fun w => (dat1 (V2 m ρ) c).arrAt w cfg1.N
/-- The second call's arrays hold what it leaves in them. -/
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
/-- A buffer that is none of the second call's arrays keeps its contents. -/
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- An array that the second call does not write keeps its contents: it is read only, or not touched. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- An argument among the second call's arrays is one it reads only. -/
theorem argsIn1 : ∀ a ∈ argRefs, ∀ w : Fin cfg1.W, Pipeline.arrRef spec1 w = a → (cfg1.win w).isOut = false :=
  ListAll.forall_mem_of_all_decide (by decide +kernel)
/-- So the arguments are unchanged after the second call. -/
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same contents, as the second call leaves them. -/
abbrev V3 : (c : Dev nD) → (b : Ref sig .tc) → Buf (Elt F) ((c : Thread nD τ).loc b) := fun c b => W3 m ρ c b
/-- The second call's arrays at its exit, read from the boundary's contents. -/
theorem hF1 (c : Dev nD) (w : Fin cfg1.W) : (dat1 (V2 m ρ) c).arrAt w cfg1.N = V3 m ρ c (Pipeline.arrRef spec1 w) :=
  (W3_arr m ρ c w).symm
/-- Every other buffer is as it was at the second call's entry. -/
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At the end, after the host code that follows the calls. -/
abbrev W4 : Dev nD → Valuation τ sig (Elt F) := fun c => StableHlo.after hostOps2 (W3 m ρ c)
/-- An array that this host code does not write keeps its contents. -/
theorem W4_of (c : Dev nD) (r : Ref sig .tc) (h : r ∉ hostOps2_W) : W4 m ρ c (Proc.devRef .tc r) = W3 m ρ c (Proc.devRef .tc r) :=
  StableHlo.after_of_writes_sub hostOps2 _ hostOps2_writes h
/-- So the arguments end as launched. -/
theorem W4_args (c : Dev nD) : ∀ a ∈ argRefs, W4 m ρ c (Proc.devRef .tc a) = m ((c : Thread nD τ).loc a) :=
  fun a ha => (W4_of m ρ c a (hostOps2_args a ha)).trans (W3_args m ρ c a ha)

/-! ## The proof data family and the thread state -/

/-- No call has a prefetched table. -/
abbrev adm : (p : Fin 2) → (pcfgs (F := F) p).Adm := fun p => (cfgs p).toPCfg_adm
/-- The proof data of either call, at the contents it is entered with. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No variant is counted. -/
abbrev 𝒱₀ : Variants := Variants.none
/-- No core owes another a signal. -/
abbrev L : GSem nD τ sig → Finset Unit := fun _ => ∅
/-- So no signal has a level. -/
abbrev lv : GSem nD τ sig → Unit → ℕ := fun _ _ => 0
/-- What goes along with the buffers through every part: the random generator's register and the core's empty debt. -/
abbrev R (c : Dev nD) : sProp 𝕄 := iprop((∃ r, prngReg c r) ∗ ∃ W, owes (c : Thread nD τ) (0 : CellTallies nD τ sig Unit) W)
/-- Host code as a part of the run, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- A buffer that lives for the whole run is among those held. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What is held at the end: every lasting buffer at the last boundary's contents, and the generator's register. -/
abbrev Tₙ (c : Dev nD) : sProp 𝕄 := iprop(StableHlo.held (c : Thread nD τ) (Pipeline.ucRefs τ sig) (W4 m ρ c) ∗ ∃ r, prngReg c r)

/-! ## The calls as parts of the run -/

-- the library's entry and exit lemmas are stated of the call's configuration, which has to be unfolded to match
set_option backward.isDefEq.respectTransparency.types false in
/-- The first call: entered from the buffers at `W1`, left at `W2`. Its arrays are taken out of the lasting buffers and put
    back; nothing is owed, and the call has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c); unfold Pipeline.ΦA
    iintro ⟨Hp, -, Hr⟩
    isplitl [Hr]; · iexact Hr
    iexact Hp
  hout c := by
    rw [Pipeline.ownSems0_none]; refine BIBase.Entails.trans (hout0 (V1 m ρ) c) ?_; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's entry and exit lemmas are stated of the call's configuration, which has to be unfolded to match
set_option backward.isDefEq.respectTransparency.types false in
/-- The second call: entered from the buffers at `W2`, left at `W3`, in the same way. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The whole run -/

/-- The four parts in order: host code, first call, second call, host code. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- The program is the run of these parts. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- the library's theorem of a whole run is stated of the parts' configurations, which have to be unfolded to match
set_option backward.isDefEq.respectTransparency.types false in
/-- The whole run: from any memory with zero counters every fair execution of @main ends without a fault, every
    unscoped buffer holds the fourth boundary's contents `W4`, and every semaphore counter is back at zero. -/
theorem run_all : θ_run defs (onTc (τ := τ) (main (F := F))) ⟨m, fun _ => 0, ρ⟩ (fun r => (∀ c : Dev nD,
      ∀ b ∈ Pipeline.ucRefs τ sig, r.2.mem (((c : Thread nD τ)).1, b) = W4 m ρ c b)
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => ⟨h, funext fun g => hz g (.inr (no_unscoped g.2))⟩)

/-- The arguments are as launched and every counter is zero at the end of any run. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c =>
      ⟨(h.1 c _ (mem_uc main_arg0 (by decide))).trans (W4_args m ρ c main_arg0 (by decide)),
       (h.1 c _ (mem_uc main_arg1 (by decide))).trans (W4_args m ρ c main_arg1 (by decide)),
       (h.1 c _ (mem_uc main_arg2 (by decide))).trans (W4_args m ρ c main_arg2 (by decide)),
       (h.1 c _ (mem_uc main_arg3 (by decide))).trans (W4_args m ρ c main_arg3 (by decide)),
       (h.1 c _ (mem_uc main_arg4 (by decide))).trans (W4_args m ρ c main_arg4 (by decide)),
       (h.1 c _ (mem_uc main_arg5 (by decide))).trans (W4_args m ρ c main_arg5 (by decide)),
       (h.1 c _ (mem_uc main_arg6 (by decide))).trans (W4_args m ρ c main_arg6 (by decide)),
       (h.1 c _ (mem_uc main_arg7 (by decide))).trans (W4_args m ρ c main_arg7 (by decide)),
       (h.1 c _ (mem_uc main_arg8 (by decide))).trans (W4_args m ρ c main_arg8 (by decide)),
       (h.1 c _ (mem_uc main_arg9 (by decide))).trans (W4_args m ρ c main_arg9 (by decide))⟩, h.2⟩)
    (run_all m ρ)

/-- What any run leaves: each result array at `W4`, the arguments as launched. -/
theorem run_values : θ_run defs (onTc (τ := τ) (main (F := F))) ⟨m, fun _ => 0, ρ⟩ (fun r => ∀ c : Dev nD,
r.2.mem ((c.tc : Thread nD τ).loc main_v0_0) = W4 m ρ c (Proc.devRef .tc main_v0_0)
      ∧ r.2.mem ((c.tc : Thread nD τ).loc main_v0_0) = W4 m ρ c (Proc.devRef .tc main_v0_0)
      ∧ r.2.mem ((c.tc : Thread nD τ).loc main_v0_2) = W4 m ρ c (Proc.devRef .tc main_v0_2)
      ∧ r.2.mem ((c.tc : Thread nD τ).loc main_v0_3) = W4 m ρ c (Proc.devRef .tc main_v0_3)
      ∧ r.2.mem ((c.tc : Thread nD τ).loc main_v0_4) = W4 m ρ c (Proc.devRef .tc main_v0_4)
      ∧ r.2.mem ((c.tc : Thread nD τ).loc main_v0_5) = W4 m ρ c (Proc.devRef .tc main_v0_5)
      ∧ r.2.mem ((c.tc : Thread nD τ).loc main_v0_6) = W4 m ρ c (Proc.devRef .tc main_v0_6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h.1 c _ (mem_uc main_v0_0 (by decide)),
       h.1 c _ (mem_uc main_v0_0 (by decide)),
       h.1 c _ (mem_uc main_v0_2 (by decide)),
       h.1 c _ (mem_uc main_v0_3 (by decide)),
       h.1 c _ (mem_uc main_v0_4 (by decide)),
       h.1 c _ (mem_uc main_v0_5 (by decide)),
       h.1 c _ (mem_uc main_v0_6 (by decide)),
       (h.1 c _ (mem_uc main_arg0 (by decide))).trans (W4_args m ρ c main_arg0 (by decide)),
       (h.1 c _ (mem_uc main_arg1 (by decide))).trans (W4_args m ρ c main_arg1 (by decide)),
       (h.1 c _ (mem_uc main_arg2 (by decide))).trans (W4_args m ρ c main_arg2 (by decide)),
       (h.1 c _ (mem_uc main_arg3 (by decide))).trans (W4_args m ρ c main_arg3 (by decide)),
       (h.1 c _ (mem_uc main_arg4 (by decide))).trans (W4_args m ρ c main_arg4 (by decide)),
       (h.1 c _ (mem_uc main_arg5 (by decide))).trans (W4_args m ρ c main_arg5 (by decide)),
       (h.1 c _ (mem_uc main_arg6 (by decide))).trans (W4_args m ρ c main_arg6 (by decide)),
       (h.1 c _ (mem_uc main_arg7 (by decide))).trans (W4_args m ρ c main_arg7 (by decide)),
       (h.1 c _ (mem_uc main_arg8 (by decide))).trans (W4_args m ρ c main_arg8 (by decide)),
       (h.1 c _ (mem_uc main_arg9 (by decide))).trans (W4_args m ρ c main_arg9 (by decide))⟩)
    (run_all m ρ)

end Cert.KernelIdeal.Hand

end
-- ==== Proof.Twin.lean ====
/- The program as printed is the idealized program read at bit patterns: its frame is the other's. -/
module

public import proofs.«01_k».proof.Defs
public import proofs.«01_k».proof.Proof.Launch
public import proofs.«01_k».proof.Proof.Gen.Kernel.Launch
public import Idealize.ShloMosaic.Lib.Pipeline.RegionsLoop

@[expose] public section

set_option maxRecDepth 16384

noncomputable section

namespace Cert.Kernel.Hand

open Idealize.ShloMosaic Idealize.ShloMosaic.Tactic Idealize.SL.Sem

set_option maxHeartbeats 4000000 in
/-- The two programs run the same items in the same order. -/
theorem main_same (c : Dev Cert.Kernel.nD) :
    Cert.Kernel.main (F := Bits) c = Cert.KernelIdeal.main (F := Bits) c := by
  rw [Cert.Kernel.Gen.main_chain, Cert.KernelIdeal.Gen.main_chain]
  rfl

set_option maxHeartbeats 4000000 in
/-- The two programs call the same bodies. -/
theorem defs_same : Cert.Kernel.defs (F := Bits) = Cert.KernelIdeal.defs (F := Bits) := by chain_rfl

set_option maxHeartbeats 4000000 in
/-- The program as printed ends with its arguments unchanged and its counters at zero. -/
theorem quiescent : Cert.quiescent_Kernel := fun m g _ => by
  rw [defs_same, show Cert.Kernel.main (F := Bits) = Cert.KernelIdeal.main (F := Bits) from funext main_same]
  exact Cert.KernelIdeal.Hand.frame (F := Bits) m g

end Cert.Kernel.Hand

end
-- ==== Proof.Math.lean ====
/- Facts about the extended reals the equation rests on: lengths, unit vectors, similarities and the softmax average. -/
module

public import Idealize.ShloMosaic.PureOps.Ideal

@[expose] public section

noncomputable section

namespace Cert.Hand

open Idealize.ShloMosaic

/-- A finite number: one that is neither infinity. -/
def IsReal (x : EReal) : Prop := ∃ r : ℝ, x = r

/-- The small number both programs add to a length. -/
def eps : EReal := Ideal.ofBits .f32 841731191#32

/-- The small number is positive. -/
theorem eps_pos : 0 < eps := by
  unfold eps
  simp [Ideal.ofBits, Ideal.ieee, -EReal.coe_mul]
  try norm_num

variable {ι : Type*} [Fintype ι]

/-- A square is never negative. -/
theorem square_nonneg (x : EReal) : 0 ≤ x * x := by
  induction x with
  | bot => simp
  | top => simp
  | coe r => exact_mod_cast mul_self_nonneg r

/-- A sum of finite numbers is finite. -/
theorem finite_sum (f : ι → EReal) (h : ∀ i, IsReal (f i)) : IsReal (∑ i, f i) :=
  Finset.sum_induction f IsReal (fun _ _ ⟨a, ha⟩ ⟨b, hb⟩ => ⟨a + b, by rw [ha, hb, EReal.coe_add]⟩)
    ⟨0, EReal.coe_zero.symm⟩ (fun i _ => h i)

/-- A sum of positive finite numbers is positive and finite. -/
theorem pos_sum [Nonempty ι] (f : ι → EReal) (h : ∀ i, ∃ r : ℝ, 0 < r ∧ f i = r) : ∃ r : ℝ, 0 < r ∧ ∑ i, f i = r :=
  Finset.sum_induction_nonempty f (fun x => ∃ r : ℝ, 0 < r ∧ x = r)
    (fun _ _ ⟨a, ha, ea⟩ ⟨b, hb, eb⟩ => ⟨a + b, add_pos ha hb, by rw [ea, eb, EReal.coe_add]⟩)
    Finset.univ_nonempty (fun i _ => h i)

/-- A nonnegative finite factor passes through a sum. -/
theorem sum_mul_const (f : ι → EReal) (c : ℝ) (hc : 0 ≤ c) : (∑ i, f i) * (c : EReal) = ∑ i, f i * (c : EReal) := by
  classical
  refine Finset.induction_on (motive := fun s => (∑ i ∈ s, f i) * (c : EReal) = ∑ i ∈ s, f i * (c : EReal))
    Finset.univ (by simp) fun a s ha ih => ?_
  rw [Finset.sum_insert ha, Finset.sum_insert ha,
    EReal.right_distrib_of_nonneg_of_ne_top (by exact_mod_cast hc) (EReal.coe_ne_top c), ih]

/-- The length of a vector, with the small number added. -/
def len (k : ι → EReal) : EReal := Ideal.sqrt (∑ i, k i * k i) + eps

/-- A sum of squares with an infinite entry is infinite. -/
theorem squares_top (k : ι → EReal) (i : ι) (h : k i * k i = ⊤) : ∑ i, k i * k i = ⊤ :=
  top_unique (h ▸ Finset.single_le_sum (f := fun i => k i * k i) (fun j _ => square_nonneg (k j)) (Finset.mem_univ i))

/-- A square root of a nonnegative number is nonnegative. -/
theorem sqrt_nonneg' (x : EReal) (h : 0 ≤ x) : 0 ≤ Ideal.sqrt x := by
  induction x with
  | bot => simp at h
  | top => simp
  | coe r =>
    have hr : 0 ≤ r := by exact_mod_cast h
    rw [Ideal.sqrt_coe, if_neg (not_lt.mpr hr)]
    exact_mod_cast Real.sqrt_nonneg r

/-- A length with the small number added is positive. -/
theorem len_pos (k : ι → EReal) : 0 < len k :=
  lt_of_lt_of_le eps_pos (le_add_of_nonneg_left (sqrt_nonneg' _ (Finset.sum_nonneg fun i _ => square_nonneg (k i))))

/-- The reciprocal of a positive number is a nonnegative finite number. -/
theorem recip (x : EReal) (h : 0 < x) : ∃ c : ℝ, 0 ≤ c ∧ x⁻¹ = c := by
  induction x with
  | bot => simp at h
  | top => exact ⟨0, le_rfl, by simp⟩
  | coe r => exact ⟨r⁻¹, inv_nonneg.mpr (le_of_lt (by exact_mod_cast h)), (EReal.coe_inv r).symm⟩

/-- Division by a nonzero number is the product with its reciprocal. -/
theorem div_eq (x y : EReal) (h : y ≠ 0) : Ideal.div x y = x * y⁻¹ := by rw [Ideal.div, if_neg h]

/-- An entry of a vector over the vector's length is finite, whatever the entries. -/
theorem unit_finite (k : ι → EReal) (i : ι) : IsReal (Ideal.div (k i) (len k)) := by
  rw [div_eq _ _ (len_pos k).ne']
  obtain ⟨c, hc, e⟩ := recip _ (len_pos k)
  by_cases hk : k i * k i = ⊤
  · have hl : len k = ⊤ := by
      rw [len, squares_top k i hk, Ideal.sqrt_top]
      exact EReal.top_add_of_ne_bot (fun h => by have := eps_pos; rw [h] at this; simp at this)
    rw [hl]
    exact ⟨0, by simp⟩
  · rw [e]
    generalize k i = x at hk
    induction x with
    | bot => simp at hk
    | top => simp at hk
    | coe r => exact ⟨r * c, (EReal.coe_mul r c).symm⟩

/-- The cosine similarity of a query with a row: the sum of the products of the normalized entries. -/
def cosine (q k : ι → EReal) : EReal := ∑ i, Ideal.div (q i) (len q) * Ideal.div (k i) (len k)

/-- A similarity is finite. -/
theorem cosine_finite (q k : ι → EReal) : IsReal (cosine q k) :=
  finite_sum _ fun i => by
    obtain ⟨a, ha⟩ := unit_finite q i
    obtain ⟨b, hb⟩ := unit_finite k i
    exact ⟨a * b, by rw [ha, hb, EReal.coe_mul]⟩

/-- Dividing the sum by the row's length gives the same similarity as normalizing the row first. -/
theorem cosine_late (q k : ι → EReal) : Ideal.div (∑ i, Ideal.div (q i) (len q) * k i) (len k) = cosine q k := by
  obtain ⟨c, hc, e⟩ := recip _ (len_pos k)
  rw [div_eq _ _ (len_pos k).ne', e, sum_mul_const _ c hc]
  refine Finset.sum_congr rfl fun i _ => ?_
  rw [div_eq (k i) _ (len_pos k).ne', e, mul_assoc]

/-- The largest of a nonempty list of finite numbers, taken from minus infinity on, is finite. -/
theorem fold_max {α : Type*} (s : α → EReal) (h : ∀ a, IsReal (s a)) (l : List α) (hl : l ≠ []) :
    IsReal (l.foldl (fun r a => max r (s a)) ⊥) := by
  have key : ∀ (l : List α) (x : EReal), IsReal x → IsReal (l.foldl (fun r a => max r (s a)) x) := by
    intro l
    induction l with
    | nil => exact fun x hx => hx
    | cons a l ih =>
      intro x hx
      refine ih _ ?_
      show IsReal (max x (s a))
      rcases max_choice x (s a) with e | e
      · rw [e]; exact hx
      · rw [e]; exact h a
  cases l with
  | nil => exact absurd rfl hl
  | cons a l =>
    refine key l _ ?_
    show IsReal (max ⊥ (s a))
    rw [max_eq_right bot_le]
    exact h a

/-- The softmax average, shifted by any finite number, is the quotient of the two unshifted sums. -/
theorem softmax [Nonempty ι] (s : ι → EReal) (hs : ∀ i, IsReal (s i)) (M : EReal) (hM : IsReal M) (v : ι → EReal) :
    ∑ i, Ideal.div (Ideal.exp (s i - M)) (∑ i, Ideal.exp (s i - M)) * v i
      = Ideal.div (∑ i, Ideal.exp (s i) * v i) (∑ i, Ideal.exp (s i)) := by
  obtain ⟨m, rfl⟩ := hM
  choose r hr using hs
  have hexp : ∀ i, Ideal.exp (s i) = (Real.exp (r i) : EReal) := fun i => by rw [hr]; rfl
  have hsh : ∀ i, Ideal.exp (s i - (m : EReal)) = Ideal.exp (s i) * (Real.exp (-m) : EReal) := fun i => by
    rw [hexp, hr, ← EReal.coe_sub, Ideal.exp_coe, ← EReal.coe_mul, sub_eq_add_neg, Real.exp_add]
  obtain ⟨A, hA, eA⟩ := pos_sum (fun i => Ideal.exp (s i)) fun i => ⟨_, Real.exp_pos (r i), hexp i⟩
  have hc : 0 < Real.exp (-m) := Real.exp_pos _
  have hne : ((A * Real.exp (-m) : ℝ) : EReal) ≠ 0 := by exact_mod_cast (mul_pos hA hc).ne'
  have hA0 : ((A : ℝ) : EReal) ≠ 0 := by exact_mod_cast hA.ne'
  simp only [hsh]
  rw [← sum_mul_const _ _ hc.le, eA, ← EReal.coe_mul, div_eq _ _ hA0, ← EReal.coe_inv,
    sum_mul_const _ _ (inv_nonneg.mpr hA.le)]
  refine Finset.sum_congr rfl fun i _ => ?_
  rw [div_eq _ _ hne, ← EReal.coe_inv, hexp, ← EReal.coe_mul, ← EReal.coe_mul, mul_right_comm _ (v i), ← EReal.coe_mul]
  congr 2
  field_simp

/-- What a query reads out of one column of the memory: the average of the values weighted by the exponentials of the
    similarities, squashed by the hyperbolic tangent. -/
def readout {n : ℕ} (q : Fin n → EReal) (keys : ι → Fin n → EReal) (v : ι → EReal) : EReal :=
  Ideal.tanh (Ideal.div (∑ i, Ideal.exp (cosine q (keys i)) * v i) (∑ i, Ideal.exp (cosine q (keys i))))

end Cert.Hand
-- ==== Proof.Spec.lean ====
/- The values both programs compute, one element at a time: a row's preactivations, its gates, the new cell state and the
   new hidden state. -/
module

public import proofs.«01_k».proof.Proof.Math
public import Idealize.ShloMosaic.Lib.Pointwise

@[expose] public section

noncomputable section

namespace Cert.Hand

open Idealize.ShloMosaic

/-- One row's preactivations: the input's share with its bias plus the hidden state's share with its bias. -/
def preact (x : Fin 1024 → EReal) (h : Fin 512 → EReal) (wi : Fin 2560 → Fin 1024 → EReal) (bi : Fin 2560 → EReal)
    (wh : Fin 2560 → Fin 512 → EReal) (bh : Fin 2560 → EReal) (l : Fin 2560) : EReal :=
  (∑ k, x k * wi l k + bi l) + (∑ k, h k * wh l k + bh l)

/-- The two shares added first and the two biases added to each other: the same sum. -/
theorem preact_regrouped (x : Fin 1024 → EReal) (h : Fin 512 → EReal) (wi : Fin 2560 → Fin 1024 → EReal) (bi : Fin 2560 → EReal)
    (wh : Fin 2560 → Fin 512 → EReal) (bh : Fin 2560 → EReal) (l : Fin 2560) :
    (∑ k, x k * wi l k + ∑ k, h k * wh l k) + (bi l + bh l) = preact x h wi bi wh bh l :=
  add_add_add_comm _ _ _ _

/-- The gate read from the 512 preactivations that start at `o`. -/
def gate (p : Fin 2560 → EReal) (o : ℕ) (ho : o + 512 ≤ 2560) (l : Fin 512) : EReal := Ideal.logistic (p ⟨o + l.val, by omega⟩)

/-- The new cell state. -/
def cell (p : Fin 2560 → EReal) (c : EReal) (l : Fin 512) : EReal :=
  gate p 0 (by omega) l * c + gate p 512 (by omega) l * Ideal.tanh (p ⟨2048 + l.val, by omega⟩)

/-- The new hidden state. -/
def hidden (p : Fin 2560 → EReal) (c mem : EReal) (l : Fin 512) : EReal :=
  gate p 1024 (by omega) l * Ideal.tanh (cell p c l) + gate p 1536 (by omega) l * mem

section
variable (x : (⟨3, ![1, 1024, 1024]⟩ : Shape).Idx → EReal) (h c : (⟨3, ![1, 1024, 512]⟩ : Shape).Idx → EReal)
  (q : (⟨2, ![1, 128]⟩ : Shape).Idx → EReal) (wi : (⟨2, ![2560, 1024]⟩ : Shape).Idx → EReal)
  (bi : (⟨1, ![2560]⟩ : Shape).Idx → EReal) (wh : (⟨2, ![2560, 512]⟩ : Shape).Idx → EReal)
  (bh : (⟨1, ![2560]⟩ : Shape).Idx → EReal) (keys : (⟨2, ![100000, 128]⟩ : Shape).Idx → EReal)
  (vals : (⟨2, ![100000, 512]⟩ : Shape).Idx → EReal)

/-- The preactivations of row `R` of the arguments. -/
def rowOf (R : Fin 1024) : Fin 2560 → EReal :=
  preact (fun k => x (ix3 0 R k)) (fun k => h (ix3 0 R k)) (fun l k => wi (ix2 l k)) (fun l => bi (ix1 l))
    (fun l k => wh (ix2 l k)) (fun l => bh (ix1 l))

/-- What the query reads out of column `l` of the memory. -/
def readOf (l : Fin 512) : EReal :=
  readout (fun k => q (ix2 0 k)) (fun (n : Fin 100000) k => keys (ix2 n k)) (fun n => vals (ix2 n l))

/-- A gate, the whole array. -/
def gateArr (o : ℕ) (ho : o + 512 ≤ 2560) : (⟨2, ![1024, 512]⟩ : Shape).Idx → EReal :=
  fun j => gate (rowOf x h wi bi wh bh (j 0)) o ho (j 1)

/-- The new cell state, the whole array. -/
def cellArr : (⟨3, ![1, 1024, 512]⟩ : Shape).Idx → EReal :=
  fun j => cell (rowOf x h wi bi wh bh (j 1)) (c (ix3 0 (n1 := 1024) (n2 := 512) (j 1) (j 2))) (j 2)

/-- The new hidden state, the whole array. -/
def hiddenArr : (⟨3, ![1, 1024, 512]⟩ : Shape).Idx → EReal :=
  fun j => hidden (rowOf x h wi bi wh bh (j 1)) (c (ix3 0 (n1 := 1024) (n2 := 512) (j 1) (j 2))) (readOf q keys vals (j 2)) (j 2)

end

end Cert.Hand
-- ==== Proof.Peak.lean ====
/- The largest similarity: all the equation needs of it is that it is finite. -/
module

public import proofs.«01_k».proof.Proof.Gen.ReferenceIdeal
public import proofs.«01_k».proof.Proof.Math
public import Idealize.ShloMosaic.Lib.Pointwise

@[expose] public section

noncomputable section

namespace Cert.ReferenceIdeal.Hand

open Idealize.ShloMosaic
open Cert.ReferenceIdeal Cert.ReferenceIdeal.Gen
open Cert.Hand

/-- A maximum over finite entries, started at minus infinity, is finite wherever an entry contributes. -/
theorem reduce_real {s t u : Shape} {axes : List (Fin s.rank)} (x : FVec Ideal s .f32) (init : FVec Ideal u .f32)
    (h : s.ReducesTo axes t) (hu : 0 < u.numel) (j : t.Idx) (hx : ∀ i, IsReal (x i))
    (hi : init (Shape.Idx.first hu) = (⊥ : EReal)) (i : s.Idx) (hj : h.drop i = j) :
    IsReal (Host.reduce (FloatOps.maximumf (F := Ideal) (φ := .f32)) x init h hu j) := by
  have key := fold_max (fun n => x (s.rowMajor.symm n)) (fun n => hx _)
    ((List.finRange s.numel).filter fun n => h.drop (s.rowMajor.symm n) = j)
    (List.ne_nil_of_mem (a := s.rowMajor i) (List.mem_filter.mpr ⟨List.mem_finRange _, decide_eq_true (by
      rw [Equiv.symm_apply_apply]
      exact hj)⟩))
  unfold Host.reduce
  rw [hi]
  exact key

/-- The largest similarity. -/
def peak (s : FVec Ideal S1x100000 .f32) : FVec Ideal S1 .f32 :=
  maximumf (broadcastInDim S1 ![] bcast_S_S1 (constant S_ .f32 0xFF800000#32)) (Host.reduce FloatOps.maximumf s (constant S_ .f32 0xFF800000#32) reducesTo_S1x100000_S1_d1 h_S_)

/-- There is one index of a one-element vector. -/
theorem one_index (a b : S1.Idx) : a = b := by
  funext d
  match d with
  | ⟨0, _⟩ => exact Subsingleton.elim (α := Fin 1) _ _

/-- The bit pattern of minus infinity. -/
theorem bits_bot : Ideal.ofBits .f32 0xFF800000#32 = ⊥ := by simp [Ideal.ofBits, Ideal.ieee]

/-- The larger of minus infinity and a finite number is finite. -/
theorem max_bot_real (x y : EReal) (hx : x = ⊥) (hy : IsReal y) : IsReal (max x y) := by
  rw [hx, max_eq_right bot_le]
  exact hy

/-- The largest of finite similarities is finite. -/
theorem peak_real (s : FVec Ideal S1x100000 .f32) (hs : ∀ j, IsReal (s j)) (j : S1.Idx) : IsReal (peak s j) :=
  max_bot_real _ _ bits_bot (reduce_real s _ reducesTo_S1x100000_S1_d1 h_S_ j hs bits_bot (ix2 0 0) (one_index _ _))

end Cert.ReferenceIdeal.Hand

end
-- ==== Proof.Ref0.lean ====
/- The reference's own expressions, read one element at a time. -/
module

public import proofs.«01_k».proof.Proof.Gen.ReferenceIdeal
public import proofs.«01_k».proof.Proof.Spec
public import proofs.«01_k».proof.Proof.Peak
public import Idealize.ShloMosaic.Lib.Pointwise

@[expose] public section

noncomputable section

namespace Cert.ReferenceIdeal.Hand

open Idealize.ShloMosaic
open Cert.ReferenceIdeal Cert.ReferenceIdeal.Gen
open Cert.Hand

/-- The preactivations. -/
def pre (x : FVec Ideal S1x1024x1024 .f32) (h : FVec Ideal S1x1024x512 .f32) (wi : FVec Ideal S2560x1024 .f32)
    (bi : FVec Ideal S2560 .f32) (wh : FVec Ideal S2560x512 .f32) (bh : FVec Ideal S2560 .f32) : FVec Ideal S1024x2560 .f32 :=
  addf (addf (Host.dotGeneral dot_S1024x1024_S1024x2560_S1024x2560_1_0_0_1_n_n none (shapeCast _ x shapeCasts_S1x1024x1024_S1024x1024) (transpose S1024x2560 [1, 0] wi transposes_S2560x1024_S1024x2560_1_0)) (broadcastInDim S1024x2560 ![0, 1] bcast_S1x2560_S1024x2560_0_1 (broadcastInDim S1x2560 ![1] bcast_S2560_S1x2560_1 bi))) (addf (Host.dotGeneral dot_S1024x512_S512x2560_S1024x2560_1_0_0_1_n_n none (shapeCast _ h shapeCasts_S1x1024x512_S1024x512) (transpose S512x2560 [1, 0] wh transposes_S2560x512_S512x2560_1_0)) (broadcastInDim S1024x2560 ![0, 1] bcast_S1x2560_S1024x2560_0_1 (broadcastInDim S1x2560 ![1] bcast_S2560_S1x2560_1 bh)))

/-- The preactivations of row `r`. -/
theorem pre_apply (x : FVec Ideal S1x1024x1024 .f32) (h : FVec Ideal S1x1024x512 .f32) (wi : FVec Ideal S2560x1024 .f32)
    (bi : FVec Ideal S2560 .f32) (wh : FVec Ideal S2560x512 .f32) (bh : FVec Ideal S2560 .f32) (r : Fin 1024) (l : Fin 2560) :
    pre x h wi bi wh bh (ix2 r l) = preact (fun k => x (ix3 0 r k)) (fun k => h (ix3 0 r k)) (fun l k => wi (ix2 l k))
      (fun l => bi (ix1 l)) (fun l k => wh (ix2 l k)) (fun l => bh (ix1 l)) l := by
  pointwise [pre]
  rfl

/-- The gate activations on the first 2048 columns. -/
def gates (p : FVec Ideal S1024x2560 .f32) : FVec Ideal S1024x2048 .f32 :=
  Host.divf (broadcastInDim S1024x2048 ![] bcast_S_S1024x2048 (constant S_ .f32 0x3F800000#32)) (addf (broadcastInDim S1024x2048 ![] bcast_S_S1024x2048 (constant S_ .f32 0x3F800000#32)) (Host.exp (Host.negf (extractStridedSlice S1024x2048 ![0, 0] p slices_S1024x2560_S1024x2048_0_0))))

/-- A gate activation is the logistic function of its preactivation. -/
theorem gates_apply (p : FVec Ideal S1024x2560 .f32) (r : Fin 1024) (l : Fin 2048) :
    gates p (ix2 r l) = Ideal.logistic (p (ix2 r ⟨l.val, by omega⟩)) := by
  pointwise [gates]
  rfl

/-- The forget gate. -/
def gate0 (p : FVec Ideal S1024x2560 .f32) : FVec Ideal S1024x512 .f32 :=
  extractStridedSlice S1024x512 ![0, 0] (gates p) slices_S1024x2048_S1024x512_0_0

/-- The input gate. -/
def gate1 (p : FVec Ideal S1024x2560 .f32) : FVec Ideal S1024x512 .f32 :=
  extractStridedSlice S1024x512 ![0, 512] (gates p) slices_S1024x2048_S1024x512_0_512

/-- The output gate. -/
def gate2 (p : FVec Ideal S1024x2560 .f32) : FVec Ideal S1024x512 .f32 :=
  extractStridedSlice S1024x512 ![0, 1024] (gates p) slices_S1024x2048_S1024x512_0_1024

/-- The reinstatement gate. -/
def gate3 (p : FVec Ideal S1024x2560 .f32) : FVec Ideal S1024x512 .f32 :=
  extractStridedSlice S1024x512 ![0, 1536] (gates p) slices_S1024x2048_S1024x512_0_1536

section
variable (p : FVec Ideal S1024x2560 .f32) (r : Fin 1024) (l : Fin 512)

/-- The forget gate of row `r`. -/
theorem gate0_apply : gate0 p (ix2 r l) = gate (fun k => p (ix2 r k)) 0 (by omega) l := by
  pointwise [gate0]
  rw [gates_apply]
  simp only [gate, Nat.zero_add]

/-- The input gate of row `r`. -/
theorem gate1_apply : gate1 p (ix2 r l) = gate (fun k => p (ix2 r k)) 512 (by omega) l := by
  pointwise [gate1]
  rw [gates_apply]
  rfl

/-- The output gate of row `r`. -/
theorem gate2_apply : gate2 p (ix2 r l) = gate (fun k => p (ix2 r k)) 1024 (by omega) l := by
  pointwise [gate2]
  rw [gates_apply]
  rfl

/-- The reinstatement gate of row `r`. -/
theorem gate3_apply : gate3 p (ix2 r l) = gate (fun k => p (ix2 r k)) 1536 (by omega) l := by
  pointwise [gate3]
  rw [gates_apply]
  rfl

end

/-- The new cell state. -/
def cells (p : FVec Ideal S1024x2560 .f32) (c : FVec Ideal S1x1024x512 .f32) : FVec Ideal S1024x512 .f32 :=
  addf (mulf (gate0 p) (shapeCast _ c shapeCasts_S1x1024x512_S1024x512))
    (mulf (gate1 p) (Host.tanh (extractStridedSlice S1024x512 ![0, 2048] p slices_S1024x2560_S1024x512_0_2048)))

/-- The new cell state of row `r`. -/
theorem cells_apply (p : FVec Ideal S1024x2560 .f32) (c : FVec Ideal S1x1024x512 .f32) (r : Fin 1024) (l : Fin 512) :
    cells p c (ix2 r l) = cell (fun k => p (ix2 r k)) (c (ix3 0 r l)) l := by
  pointwise [cells]
  rw [gate0_apply, gate1_apply]
  rfl

/-- The new hidden state, given the read-out of the memory. -/
def states (p : FVec Ideal S1024x2560 .f32) (c : FVec Ideal S1x1024x512 .f32) (mem : FVec Ideal S1x512 .f32) :
    FVec Ideal S1024x512 .f32 :=
  addf (mulf (gate2 p) (Host.tanh (cells p c)))
    (mulf (gate3 p) (broadcastInDim S1024x512 ![0, 1] bcast_S1x512_S1024x512_0_1 mem))

/-- The new hidden state of row `r`. -/
theorem states_apply (p : FVec Ideal S1024x2560 .f32) (c : FVec Ideal S1x1024x512 .f32) (mem : FVec Ideal S1x512 .f32)
    (r : Fin 1024) (l : Fin 512) :
    states p c mem (ix2 r l) = hidden (fun k => p (ix2 r k)) (c (ix3 0 r l)) (mem (ix2 0 l)) l := by
  pointwise [states]
  rw [gate2_apply, gate3_apply, cells_apply]
  rfl

/-- The similarities of the query with every memory row. -/
def sims (q : FVec Ideal S1x128 .f32) (k : FVec Ideal S100000x128 .f32) : FVec Ideal S1x100000 .f32 :=
  Host.dotGeneral dot_S1x128_S128x100000_S1x100000_1_0_0_1_n_n none (Host.divf q (broadcastInDim S1x128 ![0, 1] bcast_S1x1_S1x128_0_1 (addf (Host.sqrt (broadcastInDim S1x1 ![0] bcast_S1_S1x1_0 (Host.reduceAdd (mulf q q) (constant S_ .f32 0x00000000#32) reducesTo_S1x128_S1_d1 h_S_))) (broadcastInDim S1x1 ![] bcast_S_S1x1 (constant S_ .f32 0x322BCC77#32))))) (transpose S128x100000 [1, 0] (Host.divf k (broadcastInDim S100000x128 ![0, 1] bcast_S100000x1_S100000x128_0_1 (addf (Host.sqrt (broadcastInDim S100000x1 ![0] bcast_S100000_S100000x1_0 (Host.reduceAdd (mulf k k) (constant S_ .f32 0x00000000#32) reducesTo_S100000x128_S100000_d1 h_S_))) (broadcastInDim S100000x1 ![] bcast_S_S100000x1 (constant S_ .f32 0x322BCC77#32))))) transposes_S100000x128_S128x100000_1_0)

/-- A similarity is the cosine of the query with the row. -/
theorem sims_apply (q : FVec Ideal S1x128 .f32) (k : FVec Ideal S100000x128 .f32) (l : Fin 100000) :
    sims q k (ix2 0 l) = cosine (fun x => q (ix2 0 x)) (fun x => k (ix2 l x)) := by
  pointwise [sims]
  rfl

/-- The exponentials of the similarities less the largest one. -/
def shifted (s : FVec Ideal S1x100000 .f32) (t : FVec Ideal S1 .f32) : FVec Ideal S1x100000 .f32 :=
  Host.exp (subf s (broadcastInDim S1x100000 ![0, 1] bcast_S1x1_S1x100000_0_1 (broadcastInDim S1x1 ![0] bcast_S1_S1x1_0 t)))

/-- The read-out: the values averaged with the normalized exponentials. -/
def memory (e : FVec Ideal S1x100000 .f32) (v : FVec Ideal S100000x512 .f32) : FVec Ideal S1x512 .f32 :=
  Host.tanh (Host.dotGeneral dot_S1x100000_S100000x512_S1x512_1_0_0_1_n_n none (Host.divf e (broadcastInDim S1x100000 ![0, 1] bcast_S1x1_S1x100000_0_1 (broadcastInDim S1x1 ![0] bcast_S1_S1x1_0 (Host.reduceAdd e (constant S_ .f32 0x00000000#32) reducesTo_S1x100000_S1_d1 h_S_)))) v)

/-- A shifted exponential. -/
theorem shifted_apply (s : FVec Ideal S1x100000 .f32) (t : FVec Ideal S1 .f32) (l : Fin 100000) :
    shifted s t (ix2 0 l) = Ideal.exp (s (ix2 0 l) - t (ix1 0)) := by
  pointwise [shifted]

/-- One column of the read-out. -/
theorem memory_apply (e : FVec Ideal S1x100000 .f32) (v : FVec Ideal S100000x512 .f32) (l : Fin 512) :
    memory e v (ix2 0 l) = Ideal.tanh (∑ x : Fin 100000, Ideal.div (e (ix2 0 x)) (∑ x : Fin 100000, e (ix2 0 x)) * v (ix2 x l)) := by
  pointwise [memory]

/-- The reference's read-out of the memory. -/
def retrieved (q : FVec Ideal S1x128 .f32) (k : FVec Ideal S100000x128 .f32) (v : FVec Ideal S100000x512 .f32) : FVec Ideal S1x512 .f32 :=
  memory (shifted (sims q k) (peak (sims q k))) v

/-- The reference's read-out is the quotient of the two unshifted sums, squashed. -/
theorem retrieved_apply (q : FVec Ideal S1x128 .f32) (k : FVec Ideal S100000x128 .f32) (v : FVec Ideal S100000x512 .f32) (l : Fin 512) :
    retrieved q k v (ix2 0 l) = readout (fun x => q (ix2 0 x)) (fun n x => k (ix2 n x)) (fun n => v (ix2 n l)) := by
  have hr : ∀ n : Fin 100000, IsReal (sims q k (ix2 0 n)) := fun n => sims_apply q k n ▸ cosine_finite _ _
  have hs : ∀ j, IsReal (sims q k j) := fun j => by
    have e : j = ix2 (0 : Fin 1) (show Fin 100000 from j 1) := (eq_ix2 j).trans (by
      rw [Subsingleton.elim (α := Fin 1) (j 0) 0])
    rw [e]
    exact hr _
  rw [retrieved, memory_apply]
  simp only [shifted_apply]
  rw [softmax (fun x => sims q k (ix2 0 x)) (fun x => hs _) _ (peak_real _ hs _)]
  simp only [sims_apply]
  rfl

end Cert.ReferenceIdeal.Hand

end
-- ==== Proof.RefValues.lean ====
/- The seven results of the reference, as the same functions of its arguments. -/
module

public import proofs.«01_k».proof.Proof.Ref0

@[expose] public section

noncomputable section

namespace Cert.ReferenceIdeal.Hand

open Idealize.ShloMosaic
open Cert.ReferenceIdeal Cert.ReferenceIdeal.Gen
open Cert.Hand

variable (x : FVec Ideal S1x1024x1024 .f32) (h c : FVec Ideal S1x1024x512 .f32) (q : FVec Ideal S1x128 .f32)
  (wi : FVec Ideal S2560x1024 .f32) (bi : FVec Ideal S2560 .f32) (wh : FVec Ideal S2560x512 .f32) (bh : FVec Ideal S2560 .f32)
  (keys : FVec Ideal S100000x128 .f32) (vals : FVec Ideal S100000x512 .f32)

/-- A row of the reference's preactivations is the arguments'. -/
theorem pre_row (R : Fin 1024) : (fun k : Fin 2560 => pre x h wi bi wh bh (ix2 R k)) = rowOf x h wi bi wh bh R :=
  funext fun k => pre_apply x h wi bi wh bh R k

/-- An index of a gate's array. -/
theorem gate_index (j : S1024x512.Idx) : ∃ (R : Fin 1024) (l : Fin 512), j = ix2 R l := ⟨j 0, j 1, eq_ix2 j⟩

/-- An index of a result with a leading axis of one. -/
theorem lead_index (j : S1x1024x512.Idx) : ∃ (R : Fin 1024) (l : Fin 512), j = ix3 0 R l :=
  ⟨j 1, j 2, (eq_ix3 j).trans (by rw [Subsingleton.elim (α := Fin 1) (j 0) 0])⟩

/-- The forget gate. -/
theorem ref3 : gate0 (pre x h wi bi wh bh) = gateArr x h wi bi wh bh 0 (by omega) := by
  funext j
  obtain ⟨R, l, rfl⟩ := gate_index j
  rw [gate0_apply, pre_row]
  rfl

/-- The input gate. -/
theorem ref4 : gate1 (pre x h wi bi wh bh) = gateArr x h wi bi wh bh 512 (by omega) := by
  funext j
  obtain ⟨R, l, rfl⟩ := gate_index j
  rw [gate1_apply, pre_row]
  rfl

/-- The output gate. -/
theorem ref5 : gate2 (pre x h wi bi wh bh) = gateArr x h wi bi wh bh 1024 (by omega) := by
  funext j
  obtain ⟨R, l, rfl⟩ := gate_index j
  rw [gate2_apply, pre_row]
  rfl

/-- The reinstatement gate. -/
theorem ref6 : gate3 (pre x h wi bi wh bh) = gateArr x h wi bi wh bh 1536 (by omega) := by
  funext j
  obtain ⟨R, l, rfl⟩ := gate_index j
  rw [gate3_apply, pre_row]
  rfl

/-- A result with a leading axis, at an element. -/
theorem lift_s (a : FVec Ideal S1024x512 .f32) (R : Fin 1024) (k : Fin 512) :
    shapeCast S1x1024x512 a shapeCasts_S1024x512_S1x1024x512 (ix3 0 R k) = a (ix2 R k) := by
  pointwise

/-- The new cell state. -/
theorem ref2 : shapeCast S1x1024x512 (cells (pre x h wi bi wh bh) c) shapeCasts_S1024x512_S1x1024x512 = cellArr x h c wi bi wh bh := by
  funext j
  obtain ⟨R, l, rfl⟩ := lead_index j
  rw [lift_s, cells_apply, pre_row]
  rfl

/-- The new hidden state. -/
theorem ref0 : shapeCast S1x1024x512 (states (pre x h wi bi wh bh) c (retrieved q keys vals)) shapeCasts_S1024x512_S1x1024x512
    = hiddenArr x h c q wi bi wh bh keys vals := by
  funext j
  obtain ⟨R, l, rfl⟩ := lead_index j
  rw [lift_s, states_apply, pre_row, retrieved_apply]
  rfl

end Cert.ReferenceIdeal.Hand

end
-- ==== Proof.RefRun.lean ====
/- The reference program runs: what it leaves in its arguments, its counters and its results. -/
module

public import proofs.«01_k».proof.Defs
public import proofs.«01_k».proof.Proof.Gen.ReferenceIdeal.Run
public import proofs.«01_k».proof.Proof.RefValues
public import Idealize.ShloMosaic.Lib.Quiescent

@[expose] public section

set_option maxRecDepth 16384

noncomputable section

namespace Cert.ReferenceIdeal.Hand

open Idealize.ShloMosaic Idealize.SL.Sem
open Cert.ReferenceIdeal Cert.ReferenceIdeal.Gen
open Cert.Hand

/-- The reference program runs, leaves its arguments as it found them, and has no semaphore to leave raised. -/
theorem quiescent : Cert.quiescent_ReferenceIdeal := fun m g _ =>
  (θ_run defs _ _).mono
    (fun r h => ⟨fun c => (h c).2.2.2.2.2.2.2, sem_eq_zero_of_no_sems (by decide) r.2⟩)
    (Cert.ReferenceIdeal.Value.run m g)

variable (m : (ℓ : Loc nD τ sig) → Buf (Elt Ideal) ℓ) (g : Dev nD → PrngReg) (c : Dev nD)

/-- The argument `b` as launched. -/
abbrev arg (b : Ref sig .tc) : Buf (Elt Ideal) ((c.tc : Thread nD τ).loc b) := m ((c.tc : Thread nD τ).loc b)

/-- The hidden state the reference's run names is the one the readings are about. -/
theorem hidden_named : Cert.ReferenceIdeal.Value.res_main_v60 m c
    = hiddenArr (arg m c main_arg0) (arg m c main_arg1) (arg m c main_arg2) (arg m c main_arg3) (arg m c main_arg4)
        (arg m c main_arg5) (arg m c main_arg6) (arg m c main_arg7) (arg m c main_arg8) (arg m c main_arg9) := by
  refine Eq.trans ?_ (ref0 _ _ _ _ _ _ _ _ _ _)
  unfold Cert.ReferenceIdeal.Value.res_main_v60
  rfl

/-- What any run of the reference leaves: the seven results as functions of the arguments, and the arguments. -/
theorem run_spec : θ_run defs (onTc (τ := τ) (main (F := Ideal))) ⟨m, fun _ => 0, g⟩ (fun r => ∀ c : Dev nD,
    r.2.mem ((c.tc : Thread nD τ).loc main_v60) = hiddenArr (arg m c main_arg0) (arg m c main_arg1) (arg m c main_arg2)
        (arg m c main_arg3) (arg m c main_arg4) (arg m c main_arg5) (arg m c main_arg6) (arg m c main_arg7) (arg m c main_arg8)
        (arg m c main_arg9)
      ∧ r.2.mem ((c.tc : Thread nD τ).loc main_v61) = cellArr (arg m c main_arg0) (arg m c main_arg1) (arg m c main_arg2)
          (arg m c main_arg4) (arg m c main_arg5) (arg m c main_arg6) (arg m c main_arg7)
      ∧ r.2.mem ((c.tc : Thread nD τ).loc main_v21) = gateArr (arg m c main_arg0) (arg m c main_arg1) (arg m c main_arg4)
          (arg m c main_arg5) (arg m c main_arg6) (arg m c main_arg7) 0 (by omega)
      ∧ r.2.mem ((c.tc : Thread nD τ).loc main_v22) = gateArr (arg m c main_arg0) (arg m c main_arg1) (arg m c main_arg4)
          (arg m c main_arg5) (arg m c main_arg6) (arg m c main_arg7) 512 (by omega)
      ∧ r.2.mem ((c.tc : Thread nD τ).loc main_v23) = gateArr (arg m c main_arg0) (arg m c main_arg1) (arg m c main_arg4)
          (arg m c main_arg5) (arg m c main_arg6) (arg m c main_arg7) 1024 (by omega)
      ∧ r.2.mem ((c.tc : Thread nD τ).loc main_v24) = gateArr (arg m c main_arg0) (arg m c main_arg1) (arg m c main_arg4)
          (arg m c main_arg5) (arg m c main_arg6) (arg m c main_arg7) 1536 (by omega)) :=
  (θ_run defs _ _).mono
    (fun r h c =>
      ⟨(h c).1.trans (hidden_named m c), (h c).2.2.1.trans (ref2 _ _ _ _ _ _ _), (h c).2.2.2.1.trans (ref3 _ _ _ _ _ _),
        (h c).2.2.2.2.1.trans (ref4 _ _ _ _ _ _), (h c).2.2.2.2.2.1.trans (ref5 _ _ _ _ _ _),
        (h c).2.2.2.2.2.2.1.trans (ref6 _ _ _ _ _ _)⟩)
    (Cert.ReferenceIdeal.Value.run m g)

end Cert.ReferenceIdeal.Hand

end
-- ==== Proof.Host.lean ====
/- What the host operations around the two launches leave: the reshaped operands, the summed bias, the reshaped results. -/
module

public import proofs.«01_k».proof.Proof.Launch
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

section
variable (W : Valuation τ sig (Elt Ideal))

/-- The first stretch leaves the input as a matrix. -/
theorem host0_x : StableHlo.after hostOps0 W (Proc.devRef .tc main_call0_v0)
    = shapeCast S1024x1024 (W (Proc.devRef .tc main_arg0)) shapeCasts_S1x1024x1024_S1024x1024 := by
  simp only [hostOps0]
  after_results_simp
  all_goals rfl

/-- The first stretch leaves the hidden state as a matrix. -/
theorem host0_h : StableHlo.after hostOps0 W (Proc.devRef .tc main_call0_v1)
    = shapeCast S1024x512 (W (Proc.devRef .tc main_arg1)) shapeCasts_S1x1024x512_S1024x512 := by
  simp only [hostOps0]
  after_results_simp
  all_goals rfl

/-- The first stretch leaves the cell state as a matrix. -/
theorem host0_c : StableHlo.after hostOps0 W (Proc.devRef .tc main_call0_v2)
    = shapeCast S1024x512 (W (Proc.devRef .tc main_arg2)) shapeCasts_S1x1024x512_S1024x512 := by
  simp only [hostOps0]
  after_results_simp
  all_goals rfl

/-- The first stretch leaves the two biases' sum as a row. -/
theorem host0_b : StableHlo.after hostOps0 W (Proc.devRef .tc main_call0_v4)
    = shapeCast S1x2560 (addf (F := Ideal) (φ := .f32) (W (Proc.devRef .tc main_arg5)) (W (Proc.devRef .tc main_arg7))) shapeCasts_S2560_S1x2560 := by
  simp only [hostOps0]
  after_results_simp
  all_goals rfl

/-- The last stretch returns the hidden state with a leading axis. -/
theorem host2_h : StableHlo.after hostOps2 W (Proc.devRef .tc main_v0_0)
    = shapeCast S1x1024x512 (W (Proc.devRef .tc main_call0_v6_0)) shapeCasts_S1024x512_S1x1024x512 := by
  simp only [hostOps2]
  after_results_simp
  all_goals rfl

/-- The last stretch returns the cell state with a leading axis. -/
theorem host2_c : StableHlo.after hostOps2 W (Proc.devRef .tc main_v0_2)
    = shapeCast S1x1024x512 (W (Proc.devRef .tc main_call0_v6_1)) shapeCasts_S1024x512_S1x1024x512 := by
  simp only [hostOps2]
  after_results_simp
  all_goals rfl

end

/-- Dropping the leading axis of the input, at an element. -/
theorem flat_x (x : Vec Ideal S1x1024x1024 .f32) (R : Fin 1024) (k : Fin 1024) :
    shapeCast S1024x1024 x shapeCasts_S1x1024x1024_S1024x1024 (ix2 R k) = x (ix3 0 R k) := by
  pointwise

/-- Dropping the leading axis of a state, at an element. -/
theorem flat_s (x : Vec Ideal S1x1024x512 .f32) (R : Fin 1024) (k : Fin 512) :
    shapeCast S1024x512 x shapeCasts_S1x1024x512_S1024x512 (ix2 R k) = x (ix3 0 R k) := by
  pointwise

/-- The summed bias as a row, at an element. -/
theorem flat_b (a b : Vec Ideal S2560 .f32) (l : Fin 2560) :
    (shapeCast S1x2560 (addf (F := Ideal) (φ := .f32) a b) shapeCasts_S2560_S1x2560 : Vec Ideal S1x2560 .f32) (ix2 0 l) = a (ix1 l) + b (ix1 l) := by
  pointwise

/-- A result with a leading axis, at an element. -/
theorem lift_s (x : Vec Ideal S1024x512 .f32) (R : Fin 1024) (k : Fin 512) :
    shapeCast S1x1024x512 x shapeCasts_S1024x512_S1x1024x512 (ix3 0 R k) = x (ix2 R k) := by
  pointwise

end Cert.KernelIdeal.Hand
-- ==== Proof.V0.lean ====
/- What the first launch leaves after each point, in terms of the body's own arithmetic. -/
module

public import proofs.«01_k».proof.Proof.Region0
public import Idealize.ShloMosaic.Lib.Pipeline.ValueKit.Acc
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.ShloMosaic.Pipeline (Dat Cfg Window)

variable {F : FTy → Type} [FloatOps F]
variable (V : (c : Dev nD) → (b : Ref sig .tc) → Buf (Elt F) ((c : Thread nD τ).loc b))

/-- Storing contents into the accumulator of the weighted values and reading them back gives them again. -/
theorem back0 (h : (scM0_0).IsWhole) (x : Vec F S8x512 .f32) :
    View.read (Elt F) (View.whole cc0_scratch0) (h.unread x) = x := h.read_unread x

/-- The same for the accumulator of the weights. -/
theorem back1 (h : (scM0_1).IsWhole) (x : Vec F S8x1 .f32) :
    View.read (Elt F) (View.whole cc0_scratch1) (h.unread x) = x := h.read_unread x

/-- The weighted values after the first point: its update of the cleared accumulator. -/
theorem acc_first (c : Dev nD) (t : Fin cfg0.N) (h : t.val % 25 = 0) :
    (outsAt0 V c t.val t.isLt).2.1 = k0_pay6 (iblk0 V c 0 t) (iblk0 V c 1 t) (iblk0 V c 2 t) k0_pay3 := by
  rw [outsAt0_A V c t h (by omega)]
  frame_out

/-- The weighted values after any other point: its update of what the point before left. -/
theorem acc_next (c : Dev nD) (t : Fin cfg0.N) (h : ¬t.val % 25 = 0) :
    (outsAt0 V c t.val t.isLt).2.1 = k0_pay6 (iblk0 V c 0 t) (iblk0 V c 1 t) (iblk0 V c 2 t)
      (outsAt0 V c (t.val - 1) (Nat.lt_of_le_of_lt (Nat.sub_le _ _) t.isLt)).2.1 := by
  by_cases h1 : t.val % 25 = 24
  · rw [outsAt0_C V c t h h1]
    frame_out [back0, back1]
  · rw [outsAt0_B V c t h h1]
    frame_out [back0, back1]

/-- The weights' sum after the first point: its update of the cleared accumulator. -/
theorem den_first (c : Dev nD) (t : Fin cfg0.N) (h : t.val % 25 = 0) :
    (outsAt0 V c t.val t.isLt).2.2 = k0_pay1 k0_pay4 (k0_pay7 (iblk0 V c 0 t) (iblk0 V c 1 t)) := by
  rw [outsAt0_A V c t h (by omega)]
  frame_out [back0, back1]

/-- The weights' sum after any other point: its update of what the point before left. -/
theorem den_next (c : Dev nD) (t : Fin cfg0.N) (h : ¬t.val % 25 = 0) :
    (outsAt0 V c t.val t.isLt).2.2 =
      k0_pay1 (outsAt0 V c (t.val - 1) (Nat.lt_of_le_of_lt (Nat.sub_le _ _) t.isLt)).2.2
        (k0_pay7 (iblk0 V c 0 t) (iblk0 V c 1 t)) := by
  by_cases h1 : t.val % 25 = 24
  · rw [outsAt0_C V c t h h1]
    frame_out [back0, back1]
  · rw [outsAt0_B V c t h h1]
    frame_out [back0, back1]

/-- The output after the last point: the quotient of the two accumulators. -/
theorem out_last (c : Dev nD) (t : Fin cfg0.N) (h : t.val % 25 = 24) :
    (outsAt0 V c t.val t.isLt).1 = k0_pay2 (outsAt0 V c t.val t.isLt).2.1 (outsAt0 V c t.val t.isLt).2.2 := by
  rw [acc_next V c t (by omega), den_next V c t (by omega), outsAt0_C V c t (by omega) h]
  frame_out [back0, back1]

end Cert.KernelIdeal.Hand
-- ==== Proof.Pay.lean ====
/- The arithmetic of the two kernel bodies, read one element at a time over the extended reals. -/
module

public import proofs.«01_k».proof.Proof.Gen.KernelIdeal.Skeleton
public import Idealize.ShloMosaic.Lib.Pointwise

@[expose] public section

noncomputable section

namespace Cert.KernelIdeal.Hand

open Idealize.ShloMosaic
open Cert.KernelIdeal Cert.KernelIdeal.Gen

/-- The exponentiated similarity of one memory row with the query. -/
theorem k0_pay5_apply (q : Vec Ideal S1x128 .f32) (k : Vec Ideal S4000x128 .f32) (r : Fin 8) (l : Fin 4000) :
    k0_pay5 q k (ix2 r l) = Ideal.exp (Ideal.div (∑ x : Fin 128, Ideal.div (q (ix2 0 x))
      (Ideal.sqrt (∑ _ : Fin 1, ∑ x : Fin 128, q (ix2 0 x) * q (ix2 0 x)) + Ideal.ofBits .f32 841731191#32) * k (ix2 l x))
      (Ideal.sqrt (∑ x : Fin 128, k (ix2 l x) * k (ix2 l x)) + Ideal.ofBits .f32 841731191#32)) := by
  pointwise [k0_pay5]
  rfl

/-- The numerators gain the weighted values of the block. -/
theorem k0_pay6_apply (q : Vec Ideal S1x128 .f32) (k : Vec Ideal S4000x128 .f32) (v : Vec Ideal S4000x512 .f32)
    (a : Vec Ideal S8x512 .f32) (r : Fin 8) (l : Fin 512) :
    k0_pay6 q k v a (ix2 r l) = a (ix2 r l) + ∑ x : Fin 4000, k0_pay5 q k (ix2 r x) * v (ix2 x l) := by
  pointwise [k0_pay6]

/-- The block's share of the denominator. -/
theorem k0_pay7_apply (q : Vec Ideal S1x128 .f32) (k : Vec Ideal S4000x128 .f32) (r : Fin 8) :
    k0_pay7 q k (ix2 r 0) = ∑ x : Fin 4000, k0_pay5 q k (ix2 r x) := by
  pointwise [k0_pay7]

/-- The denominators add up. -/
theorem k0_pay1_apply (a b : Vec Ideal S8x1 .f32) (r : Fin 8) :
    k0_pay1 a b (ix2 r 0) = a (ix2 r 0) + b (ix2 r 0) := by
  pointwise [k0_pay1]

/-- The read-out is the hyperbolic tangent of numerator over denominator. -/
theorem k0_pay2_apply (a : Vec Ideal S8x512 .f32) (b : Vec Ideal S8x1 .f32) (r : Fin 8) (l : Fin 512) :
    k0_pay2 a b (ix2 r l) = Ideal.tanh (Ideal.div (a (ix2 r l)) (b (ix2 r 0))) := by
  pointwise [k0_pay2]

/-- The numerators start at zero. -/
theorem k0_pay3_apply (r : Fin 8) (l : Fin 512) : (k0_pay3 (F := Ideal)) (ix2 r l) = 0 := by
  pointwise [k0_pay3]

/-- The denominator starts at zero. -/
theorem k0_pay4_apply (r : Fin 8) : (k0_pay4 (F := Ideal)) (ix2 r 0) = 0 := by
  pointwise [k0_pay4]

section
variable (v0 : Vec Ideal S256x1024 .f32) (v2 : Vec Ideal S2560x1024 .f32) (v4 : Vec Ideal S256x512 .f32)
  (v6 : Vec Ideal S2560x512 .f32) (v9 : Vec Ideal S1x2560 .f32) (v23 : Vec Ideal S256x512 .f32) (v28 : Vec Ideal S1x512 .f32)

/-- The preactivations of one block of rows. -/
theorem k1_pay1_apply (r : Fin 256) (l : Fin 2560) :
    k1_pay1 v0 v2 v4 v6 v9 (ix2 r l) = ∑ x : Fin 1024, v0 (ix2 r x) * v2 (ix2 l x)
      + ∑ x : Fin 512, v4 (ix2 r x) * v6 (ix2 l x) + v9 (ix2 0 l) := by
  pointwise [k1_pay1]

/-- The forget gate. -/
theorem k1_pay2_apply (r : Fin 256) (l : Fin 512) :
    k1_pay2 v0 v2 v4 v6 v9 (ix2 r l) = Ideal.logistic (k1_pay1 v0 v2 v4 v6 v9 (ix2 r ⟨l.val, by omega⟩)) := by
  pointwise [k1_pay2]

/-- The input gate. -/
theorem k1_pay3_apply (r : Fin 256) (l : Fin 512) :
    k1_pay3 v0 v2 v4 v6 v9 (ix2 r l) = Ideal.logistic (k1_pay1 v0 v2 v4 v6 v9 (ix2 r ⟨512 + l.val, by omega⟩)) := by
  pointwise [k1_pay3]

/-- The output gate. -/
theorem k1_pay4_apply (r : Fin 256) (l : Fin 512) :
    k1_pay4 v0 v2 v4 v6 v9 (ix2 r l) = Ideal.logistic (k1_pay1 v0 v2 v4 v6 v9 (ix2 r ⟨1024 + l.val, by omega⟩)) := by
  pointwise [k1_pay4]

/-- The reinstatement gate. -/
theorem k1_pay5_apply (r : Fin 256) (l : Fin 512) :
    k1_pay5 v0 v2 v4 v6 v9 (ix2 r l) = Ideal.logistic (k1_pay1 v0 v2 v4 v6 v9 (ix2 r ⟨1536 + l.val, by omega⟩)) := by
  pointwise [k1_pay5]

/-- The new cell state before the memory is added. -/
theorem k1_pay6_apply (r : Fin 256) (l : Fin 512) :
    k1_pay6 v0 v2 v4 v6 v9 v23 (ix2 r l) = k1_pay2 v0 v2 v4 v6 v9 (ix2 r l) * v23 (ix2 r l)
      + k1_pay3 v0 v2 v4 v6 v9 (ix2 r l) * Ideal.tanh (k1_pay1 v0 v2 v4 v6 v9 (ix2 r ⟨2048 + l.val, by omega⟩)) := by
  pointwise [k1_pay6]

/-- The new hidden state, with the read-out of the memory added. -/
theorem k1_pay7_apply (r : Fin 256) (l : Fin 512) :
    k1_pay7 v0 v2 v4 v6 v9 v23 v28 (ix2 r l)
      = k1_pay4 v0 v2 v4 v6 v9 (ix2 r l) * Ideal.tanh (k1_pay6 v0 v2 v4 v6 v9 v23 (ix2 r l))
        + k1_pay5 v0 v2 v4 v6 v9 (ix2 r l) * v28 (ix2 0 l) := by
  pointwise [k1_pay7]

end

end Cert.KernelIdeal.Hand
-- ==== Proof.V0b.lean ====
/- The array the first launch leaves: every row holds the read-out of the memory. -/
module

public import proofs.«01_k».proof.Proof.V0
public import proofs.«01_k».proof.Proof.Pay
public import proofs.«01_k».proof.Proof.Spec

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.ShloMosaic.Pipeline (Dat Cfg Window)
open Cert.Hand

variable (V : (c : Dev nD) → (b : Ref sig .tc) → Buf (Elt Ideal) ((c : Thread nD τ).loc b))

/-- The last point. -/
def last0 : Fin cfg0.N := ⟨24, by decide⟩

/-- The exponentiated similarity of a row is that of the query's cosine with it. -/
theorem weight (q : Vec Ideal S1x128 .f32) (k : Vec Ideal S4000x128 .f32) (r : Fin 8) (l : Fin 4000) :
    k0_pay5 q k (ix2 r l) = Ideal.exp (cosine (fun x => q (ix2 0 x)) (fun x => k (ix2 l x))) := by
  rw [k0_pay5_apply, Fin.sum_univ_one, ← cosine_late]
  rfl

/-- The denominator after the last point. -/
theorem den_total (c : Dev nD) (r : Fin 8) :
    (outsAt0 V c last0.val last0.isLt).2.2 (ix2 r 0) = ∑ p : Fin cfg0.N, k0_pay7 (iblk0 V c 0 p) (iblk0 V c 1 p) (ix2 r 0) := by
  have := Pipeline.eq_sum_fin_of_reset_step_apply_last (fun n h (r : Fin 8) => (outsAt0 V c n h).2.2 (ix2 r 0)) 25 (fun _ => 0)
    (fun p r => k0_pay7 (iblk0 V c 0 p) (iblk0 V c 1 p) (ix2 r 0))
    (fun t h r => by rw [den_first V c t h, k0_pay1_apply, k0_pay4_apply])
    (fun t h r => by rw [den_next V c t h, k0_pay1_apply])
    (le_of_eq N_0) last0 rfl r
  rw [zero_add] at this
  exact this

/-- The numerator of a column after the last point. -/
theorem acc_total (c : Dev nD) (r : Fin 8) (l : Fin 512) :
    (outsAt0 V c last0.val last0.isLt).2.1 (ix2 r l)
      = ∑ p : Fin cfg0.N, ∑ x : Fin 4000, k0_pay5 (iblk0 V c 0 p) (iblk0 V c 1 p) (ix2 r x) * iblk0 V c 2 p (ix2 x l) := by
  have := Pipeline.eq_sum_fin_of_reset_step_apply_last (fun n h (r : Fin 8) => (outsAt0 V c n h).2.1 (ix2 r l)) 25 (fun _ => 0)
    (fun p r => ∑ x : Fin 4000, k0_pay5 (iblk0 V c 0 p) (iblk0 V c 1 p) (ix2 r x) * iblk0 V c 2 p (ix2 x l))
    (fun t h r => by rw [acc_first V c t h, k0_pay6_apply, k0_pay3_apply])
    (fun t h r => by rw [acc_next V c t h, k0_pay6_apply])
    (le_of_eq N_0) last0 rfl r
  rw [zero_add] at this
  exact this

/-- The query is in hand whole at every point. -/
theorem query_block (c : Dev nD) (p : Fin cfg0.N) (x : Fin 128) :
    iblk0 V c 0 p (ix2 0 x) = V c main_arg3 (ix2 0 x) := by
  have e : ∀ t : Fin cfg0.N, win0_0.index t = ![0, 0] := (by decide +kernel : ∀ t : Fin grid0.N, _)
  blk_ext [iblk0, e]

/-- Point `p` reads the keys of rows `4000 p` to `4000 p + 3999`. -/
theorem key_block (c : Dev nD) (p : Fin cfg0.N) (n : Fin 4000) (x : Fin 128) (h : p.val * 4000 + n.val < 100000) :
    iblk0 V c 1 p (ix2 n x) = V c main_arg8 (ix2 ⟨p.val * 4000 + n.val, h⟩ x) := by
  have e : ∀ t : Fin cfg0.N, win0_1.index t = ![t.val, 0] := (by decide +kernel : ∀ t : Fin grid0.N, _)
  blk_ext [iblk0, e]

/-- Point `p` reads the values of the same rows. -/
theorem value_block (c : Dev nD) (p : Fin cfg0.N) (n : Fin 4000) (x : Fin 512) (h : p.val * 4000 + n.val < 100000) :
    iblk0 V c 2 p (ix2 n x) = V c main_arg9 (ix2 ⟨p.val * 4000 + n.val, h⟩ x) := by
  have e : ∀ t : Fin cfg0.N, win0_2.index t = ![t.val, 0] := (by decide +kernel : ∀ t : Fin grid0.N, _)
  blk_ext [iblk0, e]

/-- The first launch's array is what the body left at the last point. -/
theorem memory_last (c : Dev nD) :
    (dat0 V c).arrAt 3 cfg0.N = k0_pay2 (outsAt0 V c last0.val last0.isLt).2.1 (outsAt0 V c last0.val last0.isLt).2.2 := by
  rw [← out_last V c last0 rfl, ← after0_3]
  refine (dat0 V c).arrAt_eq_of_after_last 3 last0 (by decide +kernel) _ fun j => ?_
  rfl

/-- The rows met over the blocks are all the rows, each once. -/
theorem rows_once (f : Fin 100000 → EReal) (g : Fin cfg0.N → Fin 4000 → EReal)
    (h : ∀ p n (hl : p.val * 4000 + n.val < 100000), g p n = f ⟨p.val * 4000 + n.val, hl⟩) :
    ∑ p : Fin cfg0.N, ∑ n : Fin 4000, g p n = ∑ n : Fin 100000, f n := by
  have hN : cfg0.N = 25 := N_0
  generalize cfg0.N = N at g h hN
  subst hN
  exact Fin.sum_mul_add_congr h

/-- Every row of the first launch's array is the read-out of the memory. -/
theorem memory_array (c : Dev nD) (r : Fin 8) (l : Fin 512) :
    (dat0 V c).arrAt 3 cfg0.N (ix2 r l) = readout (fun x => V c main_arg3 (ix2 0 x))
      (fun (n : Fin 100000) x => V c main_arg8 (ix2 n x)) (fun n => V c main_arg9 (ix2 n l)) := by
  rw [memory_last, k0_pay2_apply, acc_total, den_total, readout]
  simp only [k0_pay7_apply, weight, query_block]
  rw [rows_once (fun n => Ideal.exp (cosine (fun x => V c main_arg3 (ix2 0 x)) (fun x => V c main_arg8 (ix2 n x))) * V c main_arg9 (ix2 n l)),
    rows_once (fun n => Ideal.exp (cosine (fun x => V c main_arg3 (ix2 0 x)) (fun x => V c main_arg8 (ix2 n x))))]
  · intro p n hl
    simp only [key_block V c p n _ hl]
  · intro p n hl
    simp only [key_block V c p n _ hl, value_block V c p n _ hl]

end Cert.KernelIdeal.Hand
-- ==== Proof.V1.lean ====
/- The arrays the second launch leaves: the gates, the new cell state and the new hidden state, row by row. -/
module

public import proofs.«01_k».proof.Proof.Region1
public import proofs.«01_k».proof.Proof.Pay
public import proofs.«01_k».proof.Proof.Spec
public import Idealize.ShloMosaic.Lib.Pipeline.ValueKit.Acc
public import Idealize.ShloMosaic.Lib.Pipeline.ValueKit.Geometry

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA
open Idealize.ShloMosaic.Pipeline (Dat Cfg Window)
open Cert.Hand

variable (V : (c : Dev nD) → (b : Ref sig .tc) → Buf (Elt Ideal) ((c : Thread nD τ).loc b))

/-- A row's preactivations as the second launch adds them up: the two shares first, then the summed bias. -/
def rowSum (x : Vec Ideal S1024x1024 .f32) (h : Vec Ideal S1024x512 .f32) (wi : Vec Ideal S2560x1024 .f32)
    (wh : Vec Ideal S2560x512 .f32) (b : Vec Ideal S1x2560 .f32) (R : Fin 1024) (l : Fin 2560) : EReal :=
  (∑ k : Fin 1024, x (ix2 R k) * wi (ix2 l k) + ∑ k : Fin 512, h (ix2 R k) * wh (ix2 l k)) + b (ix2 0 l)

/-- The preactivations of row `R`, from the arrays the launch is given. -/
def rowK (c : Dev nD) (R : Fin 1024) : Fin 2560 → EReal :=
  rowSum (V c main_call0_v0) (V c main_call0_v1) (V c main_arg4) (V c main_arg6) (V c main_call0_v4) R

/-- Row `r` of the block at point `t`, in the whole array. -/
def place (t : Fin cfg1.N) (r : Fin 256) : Fin 1024 :=
  ⟨t.val * 256 + r.val, by have hN : t.val < 4 := lt_of_lt_of_eq t.isLt (show cfg1.N = 4 from N_1); omega⟩

/-- Window 0 (input) carries the rows of the point. -/
theorem idx1_0 : ∀ t : Fin cfg1.N, win1_0.index t = ![t.val, 0] := (by decide +kernel : ∀ t : Fin grid1.N, _)
/-- Window 1 (hidden state) carries the rows of the point. -/
theorem idx1_1 : ∀ t : Fin cfg1.N, win1_1.index t = ![t.val, 0] := (by decide +kernel : ∀ t : Fin grid1.N, _)
/-- Window 2 (cell state) carries the rows of the point. -/
theorem idx1_2 : ∀ t : Fin cfg1.N, win1_2.index t = ![t.val, 0] := (by decide +kernel : ∀ t : Fin grid1.N, _)
/-- Window 3 (input weights) carries the whole array at every point. -/
theorem idx1_3 : ∀ t : Fin cfg1.N, win1_3.index t = ![0, 0] := (by decide +kernel : ∀ t : Fin grid1.N, _)
/-- Window 4 (hidden weights) carries the whole array at every point. -/
theorem idx1_4 : ∀ t : Fin cfg1.N, win1_4.index t = ![0, 0] := (by decide +kernel : ∀ t : Fin grid1.N, _)
/-- Window 5 (bias) carries the whole array at every point. -/
theorem idx1_5 : ∀ t : Fin cfg1.N, win1_5.index t = ![0, 0] := (by decide +kernel : ∀ t : Fin grid1.N, _)
/-- Window 6 (memory) carries the whole array at every point. -/
theorem idx1_6 : ∀ t : Fin cfg1.N, win1_6.index t = ![0, 0] := (by decide +kernel : ∀ t : Fin grid1.N, _)
/-- Window 7 (hidden state out) carries the rows of the point. -/
theorem idx1_7 : ∀ t : Fin cfg1.N, win1_7.index t = ![t.val, 0] := (by decide +kernel : ∀ t : Fin grid1.N, _)
/-- Window 8 (cell state out) carries the rows of the point. -/
theorem idx1_8 : ∀ t : Fin cfg1.N, win1_8.index t = ![t.val, 0] := (by decide +kernel : ∀ t : Fin grid1.N, _)
/-- Window 9 (forget gate) carries the rows of the point. -/
theorem idx1_9 : ∀ t : Fin cfg1.N, win1_9.index t = ![t.val, 0] := (by decide +kernel : ∀ t : Fin grid1.N, _)
/-- Window 10 (input gate) carries the rows of the point. -/
theorem idx1_10 : ∀ t : Fin cfg1.N, win1_10.index t = ![t.val, 0] := (by decide +kernel : ∀ t : Fin grid1.N, _)
/-- Window 11 (output gate) carries the rows of the point. -/
theorem idx1_11 : ∀ t : Fin cfg1.N, win1_11.index t = ![t.val, 0] := (by decide +kernel : ∀ t : Fin grid1.N, _)
/-- Window 12 (reinstatement gate) carries the rows of the point. -/
theorem idx1_12 : ∀ t : Fin cfg1.N, win1_12.index t = ![t.val, 0] := (by decide +kernel : ∀ t : Fin grid1.N, _)

section
variable (c : Dev nD) (t : Fin cfg1.N)

/-- The input rows in hand are the array's. -/
theorem x_block (r : Fin 256) (k : Fin 1024) : iblk1 V c 0 t (ix2 r k) = V c main_call0_v0 (ix2 (place t r) k) := by
  blk_ext [iblk1, idx1_0, place]
/-- The hidden-state rows in hand are the array's. -/
theorem h_block (r : Fin 256) (k : Fin 512) : iblk1 V c 1 t (ix2 r k) = V c main_call0_v1 (ix2 (place t r) k) := by
  blk_ext [iblk1, idx1_1, place]
/-- The cell-state rows in hand are the array's. -/
theorem c_block (r : Fin 256) (k : Fin 512) : iblk1 V c 2 t (ix2 r k) = V c main_call0_v2 (ix2 (place t r) k) := by
  blk_ext [iblk1, idx1_2, place]
/-- The input weights are in hand whole. -/
theorem wi_block (l : Fin 2560) (k : Fin 1024) : iblk1 V c 3 t (ix2 l k) = V c main_arg4 (ix2 l k) := by
  blk_ext [iblk1, idx1_3]
/-- The hidden weights are in hand whole. -/
theorem wh_block (l : Fin 2560) (k : Fin 512) : iblk1 V c 4 t (ix2 l k) = V c main_arg6 (ix2 l k) := by
  blk_ext [iblk1, idx1_4]
/-- The bias is in hand whole. -/
theorem b_block (l : Fin 2560) : iblk1 V c 5 t (ix2 0 l) = V c main_call0_v4 (ix2 0 l) := by
  blk_ext [iblk1, idx1_5]
/-- The body reads the first row of the memory's array. -/
theorem m_block (l : Fin 512) : View.ld (iblk1 V c 6 t) r1_5 (ix2 0 l) = V c main_call0_v5 (ix2 0 l) := by
  rw [View.ld_unit]
  pointwise
  blk_ext [iblk1, idx1_6]

/-- The block's preactivations are the rows' own. -/
theorem pay_row (r : Fin 256) (l : Fin 2560) :
    k1_pay1 (iblk1 V c 0 t) (iblk1 V c 3 t) (iblk1 V c 1 t) (iblk1 V c 4 t) (iblk1 V c 5 t) (ix2 r l) = rowK V c (place t r) l := by
  rw [k1_pay1_apply]
  simp only [x_block, h_block, wi_block, wh_block, b_block]
  rfl

/-- Where window 7 puts an element of its block. -/
theorem emb7 (r : Fin 256) (l : Fin 512) : ((cfg1.win 7).blk t).view.emb (ix2 r l) = ix2 (place t r) l := by
  blk_ext [idx1_7, place]

/-- Where window 8 puts an element of its block. -/
theorem emb8 (r : Fin 256) (l : Fin 512) : ((cfg1.win 8).blk t).view.emb (ix2 r l) = ix2 (place t r) l := by
  blk_ext [idx1_8, place]

/-- Where window 9 puts an element of its block. -/
theorem emb9 (r : Fin 256) (l : Fin 512) : ((cfg1.win 9).blk t).view.emb (ix2 r l) = ix2 (place t r) l := by
  blk_ext [idx1_9, place]

/-- Where window 10 puts an element of its block. -/
theorem emb10 (r : Fin 256) (l : Fin 512) : ((cfg1.win 10).blk t).view.emb (ix2 r l) = ix2 (place t r) l := by
  blk_ext [idx1_10, place]

/-- Where window 11 puts an element of its block. -/
theorem emb11 (r : Fin 256) (l : Fin 512) : ((cfg1.win 11).blk t).view.emb (ix2 r l) = ix2 (place t r) l := by
  blk_ext [idx1_11, place]

/-- Where window 12 puts an element of its block. -/
theorem emb12 (r : Fin 256) (l : Fin 512) : ((cfg1.win 12).blk t).view.emb (ix2 r l) = ix2 (place t r) l := by
  blk_ext [idx1_12, place]

/-- The forget gate of the block's rows. -/
theorem pay2_row (r : Fin 256) (l : Fin 512) :
    k1_pay2 (iblk1 V c 0 t) (iblk1 V c 3 t) (iblk1 V c 1 t) (iblk1 V c 4 t) (iblk1 V c 5 t) (ix2 r l)
      = gate (rowK V c (place t r)) 0 (by omega) l := by
  rw [k1_pay2_apply, pay_row]
  simp only [gate, Nat.zero_add]

/-- The input gate of the block's rows. -/
theorem pay3_row (r : Fin 256) (l : Fin 512) :
    k1_pay3 (iblk1 V c 0 t) (iblk1 V c 3 t) (iblk1 V c 1 t) (iblk1 V c 4 t) (iblk1 V c 5 t) (ix2 r l)
      = gate (rowK V c (place t r)) 512 (by omega) l := by
  rw [k1_pay3_apply, pay_row]
  rfl

/-- The output gate of the block's rows. -/
theorem pay4_row (r : Fin 256) (l : Fin 512) :
    k1_pay4 (iblk1 V c 0 t) (iblk1 V c 3 t) (iblk1 V c 1 t) (iblk1 V c 4 t) (iblk1 V c 5 t) (ix2 r l)
      = gate (rowK V c (place t r)) 1024 (by omega) l := by
  rw [k1_pay4_apply, pay_row]
  rfl

/-- The reinstatement gate of the block's rows. -/
theorem pay5_row (r : Fin 256) (l : Fin 512) :
    k1_pay5 (iblk1 V c 0 t) (iblk1 V c 3 t) (iblk1 V c 1 t) (iblk1 V c 4 t) (iblk1 V c 5 t) (ix2 r l)
      = gate (rowK V c (place t r)) 1536 (by omega) l := by
  rw [k1_pay5_apply, pay_row]
  rfl

/-- The new cell state of the block's rows. -/
theorem pay6_row (r : Fin 256) (l : Fin 512) :
    k1_pay6 (iblk1 V c 0 t) (iblk1 V c 3 t) (iblk1 V c 1 t) (iblk1 V c 4 t) (iblk1 V c 5 t) (iblk1 V c 2 t) (ix2 r l)
      = cell (rowK V c (place t r)) (V c main_call0_v2 (ix2 (place t r) l)) l := by
  rw [k1_pay6_apply, pay_row, pay2_row, pay3_row, c_block]
  rfl

/-- The new hidden state of the block's rows. -/
theorem pay7_row (r : Fin 256) (l : Fin 512) :
    k1_pay7 (iblk1 V c 0 t) (iblk1 V c 3 t) (iblk1 V c 1 t) (iblk1 V c 4 t) (iblk1 V c 5 t) (iblk1 V c 2 t)
        (View.ld (iblk1 V c 6 t) r1_5) (ix2 r l)
      = hidden (rowK V c (place t r)) (V c main_call0_v2 (ix2 (place t r) l)) (V c main_call0_v5 (ix2 0 l)) l := by
  rw [k1_pay7_apply, pay4_row, pay5_row, pay6_row, m_block]
  rfl

end

/-- The new hidden state, the whole array. -/
theorem final7 (c : Dev nD) :
    (dat1 V c).arrAt 7 cfg1.N = fun j : S1024x512.Idx => hidden (rowK V c (j 0)) (V c main_call0_v2 (ix2 (n0 := 1024) (n1 := 512) (j 0) (j 1))) (V c main_call0_v5 (ix2 (n0 := 8) (n1 := 512) 0 (j 1))) (j 1) := by
  refine (dat1 V c).arrAt_eq_of_covers 7 _ (by decide +kernel) fun t hf y => ?_
  rw [after1_7]
  frame_out
  obtain ⟨r, l, rfl⟩ : ∃ (r : Fin 256) (l : Fin 512), y = ix2 r l := ⟨y 0, y 1, eq_ix2 y⟩
  rw [emb7]
  exact pay7_row V c t r l

/-- The new cell state, the whole array. -/
theorem final8 (c : Dev nD) :
    (dat1 V c).arrAt 8 cfg1.N = fun j : S1024x512.Idx => cell (rowK V c (j 0)) (V c main_call0_v2 (ix2 (n0 := 1024) (n1 := 512) (j 0) (j 1))) (j 1) := by
  refine (dat1 V c).arrAt_eq_of_covers 8 _ (by decide +kernel) fun t hf y => ?_
  rw [after1_8]
  frame_out
  obtain ⟨r, l, rfl⟩ : ∃ (r : Fin 256) (l : Fin 512), y = ix2 r l := ⟨y 0, y 1, eq_ix2 y⟩
  rw [emb8]
  exact pay6_row V c t r l

/-- The forget gate, the whole array. -/
theorem final9 (c : Dev nD) :
    (dat1 V c).arrAt 9 cfg1.N = fun j : S1024x512.Idx => gate (rowK V c (j 0)) 0 (by omega) (j 1) := by
  refine (dat1 V c).arrAt_eq_of_covers 9 _ (by decide +kernel) fun t hf y => ?_
  rw [after1_9]
  frame_out
  obtain ⟨r, l, rfl⟩ : ∃ (r : Fin 256) (l : Fin 512), y = ix2 r l := ⟨y 0, y 1, eq_ix2 y⟩
  rw [emb9]
  exact pay2_row V c t r l

/-- The input gate, the whole array. -/
theorem final10 (c : Dev nD) :
    (dat1 V c).arrAt 10 cfg1.N = fun j : S1024x512.Idx => gate (rowK V c (j 0)) 512 (by omega) (j 1) := by
  refine (dat1 V c).arrAt_eq_of_covers 10 _ (by decide +kernel) fun t hf y => ?_
  rw [after1_10]
  frame_out
  obtain ⟨r, l, rfl⟩ : ∃ (r : Fin 256) (l : Fin 512), y = ix2 r l := ⟨y 0, y 1, eq_ix2 y⟩
  rw [emb10]
  exact pay3_row V c t r l

/-- The output gate, the whole array. -/
theorem final11 (c : Dev nD) :
    (dat1 V c).arrAt 11 cfg1.N = fun j : S1024x512.Idx => gate (rowK V c (j 0)) 1024 (by omega) (j 1) := by
  refine (dat1 V c).arrAt_eq_of_covers 11 _ (by decide +kernel) fun t hf y => ?_
  rw [after1_11]
  frame_out
  obtain ⟨r, l, rfl⟩ : ∃ (r : Fin 256) (l : Fin 512), y = ix2 r l := ⟨y 0, y 1, eq_ix2 y⟩
  rw [emb11]
  exact pay4_row V c t r l

/-- The reinstatement gate, the whole array. -/
theorem final12 (c : Dev nD) :
    (dat1 V c).arrAt 12 cfg1.N = fun j : S1024x512.Idx => gate (rowK V c (j 0)) 1536 (by omega) (j 1) := by
  refine (dat1 V c).arrAt_eq_of_covers 12 _ (by decide +kernel) fun t hf y => ?_
  rw [after1_12]
  frame_out
  obtain ⟨r, l, rfl⟩ : ∃ (r : Fin 256) (l : Fin 512), y = ix2 r l := ⟨y 0, y 1, eq_ix2 y⟩
  rw [emb12]
  exact pay5_row V c t r l

end Cert.KernelIdeal.Hand
-- ==== Proof.Values.lean ====
/- The seven results of the kernel, as functions of its arguments. -/
module

public import proofs.«01_k».proof.Proof.Host
public import proofs.«01_k».proof.Proof.V0b
public import proofs.«01_k».proof.Proof.V1

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Hand

variable (m : (ℓ : Loc nD τ sig) → Buf (Elt Ideal) ℓ) (ρ : Dev nD → PrngReg) (c : Dev nD)

/-- The argument `b` as launched. -/
abbrev arg (b : Ref sig .tc) : Buf (Elt Ideal) ((c.tc : Thread nD τ).loc b) := m ((c.tc : Thread nD τ).loc b)

/-- The second launch finds the input as a matrix. -/
theorem V2_x (R : Fin 1024) (k : Fin 1024) : V2 m ρ c main_call0_v0 (ix2 R k) = arg m c main_arg0 (ix3 0 R k) := by
  rw [show V2 m ρ c main_call0_v0 = _ from (W2_of_ne m ρ c main_call0_v0 (by decide)).trans (host0_x (W0 m ρ c))]
  exact flat_x _ R k

/-- The second launch finds the hidden state as a matrix. -/
theorem V2_h (R : Fin 1024) (k : Fin 512) : V2 m ρ c main_call0_v1 (ix2 R k) = arg m c main_arg1 (ix3 0 R k) := by
  rw [show V2 m ρ c main_call0_v1 = _ from (W2_of_ne m ρ c main_call0_v1 (by decide)).trans (host0_h (W0 m ρ c))]
  exact flat_s _ R k

/-- The second launch finds the cell state as a matrix. -/
theorem V2_c (R : Fin 1024) (k : Fin 512) : V2 m ρ c main_call0_v2 (ix2 R k) = arg m c main_arg2 (ix3 0 R k) := by
  rw [show V2 m ρ c main_call0_v2 = _ from (W2_of_ne m ρ c main_call0_v2 (by decide)).trans (host0_c (W0 m ρ c))]
  exact flat_s _ R k

/-- The second launch finds the two biases' sum. -/
theorem V2_b (l : Fin 2560) (a b : Vec Ideal S2560 .f32) (ha : arg m c main_arg5 = a) (hb : arg m c main_arg7 = b) :
    V2 m ρ c main_call0_v4 (ix2 0 l) = a (ix1 l) + b (ix1 l) := by
  rw [show V2 m ρ c main_call0_v4 = _ from (W2_of_ne m ρ c main_call0_v4 (by decide)).trans (host0_b (W0 m ρ c)), ← ha, ← hb]
  exact flat_b _ _ l

/-- The second launch finds the read-out of the memory. -/
theorem V2_m (l : Fin 512) :
    V2 m ρ c main_call0_v5 (ix2 0 l) = readOf (arg m c main_arg3) (arg m c main_arg8) (arg m c main_arg9) l := by
  rw [show V2 m ρ c main_call0_v5 = _ from W2_arr m ρ c 3]
  refine (memory_array (V1 m ρ) c 0 l).trans ?_
  rw [show V1 m ρ c main_arg3 = arg m c main_arg3 from W1_args m ρ c main_arg3 (by decide),
    show V1 m ρ c main_arg8 = arg m c main_arg8 from W1_args m ρ c main_arg8 (by decide),
    show V1 m ρ c main_arg9 = arg m c main_arg9 from W1_args m ρ c main_arg9 (by decide)]
  rfl

/-- The preactivations the second launch computes are the arguments'. -/
theorem row_eq (R : Fin 1024) :
    rowK (V2 m ρ) c R = rowOf (arg m c main_arg0) (arg m c main_arg1) (arg m c main_arg4) (arg m c main_arg5)
      (arg m c main_arg6) (arg m c main_arg7) R := by
  funext l
  rw [rowK, rowSum, rowOf, ← preact_regrouped]
  rw [show V2 m ρ c main_arg4 = arg m c main_arg4 from W2_args m ρ c main_arg4 (by decide),
    show V2 m ρ c main_arg6 = arg m c main_arg6 from W2_args m ρ c main_arg6 (by decide),
    V2_b m ρ c l _ _ rfl rfl]
  exact congrArg₂ (· + ·)
    (congrArg₂ (· + ·)
      (Finset.sum_congr rfl fun k _ => congrArg (fun t : EReal => t * (arg m c main_arg4 : Vec Ideal S2560x1024 .f32) (ix2 l k)) (V2_x m ρ c R k))
      (Finset.sum_congr rfl fun k _ => congrArg (fun t : EReal => t * (arg m c main_arg6 : Vec Ideal S2560x512 .f32) (ix2 l k)) (V2_h m ρ c R k)))
    rfl

/-- The forget gate. -/
theorem result3 : W4 m ρ c (Proc.devRef .tc main_v0_3) = gateArr (arg m c main_arg0) (arg m c main_arg1) (arg m c main_arg4)
    (arg m c main_arg5) (arg m c main_arg6) (arg m c main_arg7) 0 (by omega) := by
  refine (W4_of m ρ c main_v0_3 (by decide)).trans ((W3_arr m ρ c 9).trans ((final9 (V2 m ρ) c).trans ?_))
  funext j
  exact congrArg (fun p => gate p 0 (by omega) (j 1)) (row_eq m ρ c (j 0))

/-- The input gate. -/
theorem result4 : W4 m ρ c (Proc.devRef .tc main_v0_4) = gateArr (arg m c main_arg0) (arg m c main_arg1) (arg m c main_arg4)
    (arg m c main_arg5) (arg m c main_arg6) (arg m c main_arg7) 512 (by omega) := by
  refine (W4_of m ρ c main_v0_4 (by decide)).trans ((W3_arr m ρ c 10).trans ((final10 (V2 m ρ) c).trans ?_))
  funext j
  exact congrArg (fun p => gate p 512 (by omega) (j 1)) (row_eq m ρ c (j 0))

/-- The output gate. -/
theorem result5 : W4 m ρ c (Proc.devRef .tc main_v0_5) = gateArr (arg m c main_arg0) (arg m c main_arg1) (arg m c main_arg4)
    (arg m c main_arg5) (arg m c main_arg6) (arg m c main_arg7) 1024 (by omega) := by
  refine (W4_of m ρ c main_v0_5 (by decide)).trans ((W3_arr m ρ c 11).trans ((final11 (V2 m ρ) c).trans ?_))
  funext j
  exact congrArg (fun p => gate p 1024 (by omega) (j 1)) (row_eq m ρ c (j 0))

/-- The reinstatement gate. -/
theorem result6 : W4 m ρ c (Proc.devRef .tc main_v0_6) = gateArr (arg m c main_arg0) (arg m c main_arg1) (arg m c main_arg4)
    (arg m c main_arg5) (arg m c main_arg6) (arg m c main_arg7) 1536 (by omega) := by
  refine (W4_of m ρ c main_v0_6 (by decide)).trans ((W3_arr m ρ c 12).trans ((final12 (V2 m ρ) c).trans ?_))
  funext j
  exact congrArg (fun p => gate p 1536 (by omega) (j 1)) (row_eq m ρ c (j 0))

/-- An index of a result with a leading axis of one. -/
theorem lead_index (j : S1x1024x512.Idx) : ∃ (R : Fin 1024) (l : Fin 512), j = ix3 0 R l :=
  ⟨j 1, j 2, (eq_ix3 j).trans (by rw [Subsingleton.elim (α := Fin 1) (j 0) 0])⟩

/-- The new cell state. -/
theorem result2 : W4 m ρ c (Proc.devRef .tc main_v0_2) = cellArr (arg m c main_arg0) (arg m c main_arg1) (arg m c main_arg2)
    (arg m c main_arg4) (arg m c main_arg5) (arg m c main_arg6) (arg m c main_arg7) := by
  refine (host2_c (W3 m ρ c)).trans ?_
  rw [show W3 m ρ c (Proc.devRef .tc main_call0_v6_1) = _ from (W3_arr m ρ c 8).trans (final8 (V2 m ρ) c)]
  funext j
  obtain ⟨R, l, rfl⟩ := lead_index j
  refine (lift_s _ R l).trans ?_
  show cell (rowK (V2 m ρ) c R) (V2 m ρ c main_call0_v2 (ix2 R l)) l = _
  rw [row_eq, V2_c]
  rfl

/-- The new hidden state. -/
theorem result0 : W4 m ρ c (Proc.devRef .tc main_v0_0) = hiddenArr (arg m c main_arg0) (arg m c main_arg1) (arg m c main_arg2)
    (arg m c main_arg3) (arg m c main_arg4) (arg m c main_arg5) (arg m c main_arg6) (arg m c main_arg7) (arg m c main_arg8)
    (arg m c main_arg9) := by
  refine (host2_h (W3 m ρ c)).trans ?_
  rw [show W3 m ρ c (Proc.devRef .tc main_call0_v6_0) = _ from (W3_arr m ρ c 7).trans (final7 (V2 m ρ) c)]
  funext j
  obtain ⟨R, l, rfl⟩ := lead_index j
  refine (lift_s _ R l).trans ?_
  show hidden (rowK (V2 m ρ) c R) (V2 m ρ c main_call0_v2 (ix2 R l)) (V2 m ρ c main_call0_v5 (ix2 0 l)) l = _
  rw [row_eq, V2_c, V2_m]
  rfl

end Cert.KernelIdeal.Hand
-- ==== Proof.Algebraic.lean ====
/- Kernel and reference leave the same seven arrays over the extended reals. -/
module

public import proofs.«01_k».proof.Defs
public import proofs.«01_k».proof.Proof.Values
public import proofs.«01_k».proof.Proof.RefRun
public import Idealize.ShloMosaic.Lib.Claim

@[expose] public section

set_option maxRecDepth 16384

noncomputable section

namespace Cert.Hand

open Idealize.ShloMosaic Idealize.SL.Sem

/-- From memories agreeing on the ten arguments, kernel and reference both run, leave equal results and leave the arguments alone. -/
theorem algebraic : Cert.algebraic_KernelIdeal_ReferenceIdeal := by
  intro m g m' g' _ agree
  refine ⟨fun c => KernelIdeal.Hand.W4 m g c _, fun c => KernelIdeal.Hand.W4 m g c _, fun c => KernelIdeal.Hand.W4 m g c _,
    fun c => KernelIdeal.Hand.W4 m g c _, fun c => KernelIdeal.Hand.W4 m g c _, fun c => KernelIdeal.Hand.W4 m g c _,
    fun c => KernelIdeal.Hand.W4 m g c _, KernelIdeal.Hand.run_values m g, ?_⟩
  refine (θ_run ReferenceIdeal.defs _ _).mono (fun r h c => ?_)
    (θ_run_and (ReferenceIdeal.Hand.run_spec m' g') (ReferenceIdeal.Value.run m' g'))
  obtain ⟨r0, r2, r3, r4, r5, r6⟩ := h.1 c
  obtain ⟨e0, e1, e2, e3, e4, e5, e6, e7, e8, e9⟩ := agree c
  simp only [ReferenceIdeal.Hand.arg, e0, e1, e2, e3, e4, e5, e6, e7, e8, e9] at r0 r2 r3 r4 r5 r6
  exact ⟨r0.trans (KernelIdeal.Hand.result0 m g c).symm, r0.trans (KernelIdeal.Hand.result0 m g c).symm,
    r2.trans (KernelIdeal.Hand.result2 m g c).symm, r3.trans (KernelIdeal.Hand.result3 m g c).symm,
    r4.trans (KernelIdeal.Hand.result4 m g c).symm, r5.trans (KernelIdeal.Hand.result5 m g c).symm,
    r6.trans (KernelIdeal.Hand.result6 m g c).symm, (h.2 c).2.2.2.2.2.2.2⟩

end Cert.Hand

end
-- ==== Proof.lean ====
module

public import proofs.«01_k».proof.Defs
public import proofs.«01_k».proof.Proof.Launch
public import proofs.«01_k».proof.Proof.Twin
public import proofs.«01_k».proof.Proof.RefRun
public import proofs.«01_k».proof.Proof.Algebraic
public import proofs.«01_k».proof.Proof.Gen.Kernel
public import proofs.«01_k».proof.Proof.Gen.KernelIdeal
public import proofs.«01_k».proof.Proof.Gen.ReferenceIdeal

@[expose] public section

noncomputable section

namespace Cert.Proof

open Idealize.ShloMosaic Idealize.SL.Sem

/-- Everything claimed: the three frames, the idealization, and the equality of the seven results. -/
theorem claim : Cert.Claim :=
  ⟨Cert.Kernel.Gen.facts, Cert.KernelIdeal.Gen.facts, Cert.ReferenceIdeal.Gen.facts, Cert.Kernel.Hand.quiescent,
    fun m ρ _ => Cert.KernelIdeal.Hand.frame m ρ, Cert.ReferenceIdeal.Hand.quiescent, trivial, Cert.Hand.algebraic⟩

end Cert.Proof

end
